-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_well_formed_KernelIdeal [hPre_well_formed_KernelIdeal : Cert.Pre_well_formed_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_well_formed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_well_formed_ReferenceIdeal [hPre_well_formed_ReferenceIdeal : Cert.Pre_well_formed_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_well_formed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_well_formed_KernelIdeal [hKernelIdeal : Cert.KernelIdeal.Facts] [hPre_well_formed_KernelIdeal : Cert.Pre_well_formed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_well_formed_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_well_formed_ReferenceIdeal [hReferenceIdeal : Cert.ReferenceIdeal.Facts] [hPre_well_formed_ReferenceIdeal : Cert.Pre_well_formed_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_well_formed_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_well_formed_KernelIdeal [hKernelIdeal : Cert.KernelIdeal.Facts] [hReferenceIdeal : Cert.ReferenceIdeal.Facts] [hPre_well_formed_KernelIdeal : Cert.Pre_well_formed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_well_formed_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨4, ![128, 16, 16, 64]⟩ ⟨4, ![256, 16, 16, 64]⟩ (Layout.meshBlock [2, 4, 4] ![[0], [], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨4, ![128, 16, 16, 64]⟩ ⟨4, ![256, 16, 16, 64]⟩ (Layout.meshBlock [2, 4, 4] ![[0], [], [], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v32) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_well_formed_KernelIdeal : Cert.Pre_well_formed_KernelIdeal.Facts) (hPre_well_formed_ReferenceIdeal : Cert.Pre_well_formed_ReferenceIdeal.Facts),
    quiescent_Kernel (hKernel := hKernel)
    ∧ quiescent_KernelIdeal (hKernelIdeal := hKernelIdeal)
    ∧ quiescent_KernelIdeal_pre_well_formed_KernelIdeal (hKernelIdeal := hKernelIdeal) (hPre_well_formed_KernelIdeal := hPre_well_formed_KernelIdeal)
    ∧ quiescent_ReferenceIdeal (hReferenceIdeal := hReferenceIdeal)
    ∧ quiescent_ReferenceIdeal_pre_well_formed_ReferenceIdeal (hReferenceIdeal := hReferenceIdeal) (hPre_well_formed_ReferenceIdeal := hPre_well_formed_ReferenceIdeal)
    ∧ preserves_Kernel_KernelIdeal
    ∧ algebraic_KernelIdeal_ReferenceIdeal_pre_well_formed_KernelIdeal (hKernelIdeal := hKernelIdeal) (hReferenceIdeal := hReferenceIdeal) (hPre_well_formed_KernelIdeal := hPre_well_formed_KernelIdeal)
-- ==== Pre_well_formed_KernelIdeal.lean ====
abbrev S16x1x16x64 : Shape := ⟨4, ![16, 1, 16, 64]⟩
abbrev S128x16x16x64 : Shape := ⟨4, ![128, 16, 16, 64]⟩
abbrev S16x128 : Shape := ⟨2, ![16, 128]⟩
abbrev S16 : Shape := ⟨1, ![16]⟩
abbrev S16x1 : Shape := ⟨2, ![16, 1]⟩
abbrev S_ : Shape := ⟨0, ![]⟩

class Facts : Prop where
  shapeCasts_S16_S16x1 : S16.ShapeCasts S16x1
  bcast_S16x1_S16x128_0_1 : S16x1.BroadcastsInDim S16x128 (![0, 1] : Fin 2 → Fin S16x128.rank)
  bcast_S_S16x128 : S_.BroadcastsInDim S16x128 (![] : Fin 0 → Fin S16x128.rank)
  bcast_S_S16x1x16x64 : S_.BroadcastsInDim S16x1x16x64 (![] : Fin 0 → Fin S16x1x16x64.rank)
  reducesTo_S16x1x16x64_S_d0_1_2_3 : S16x1x16x64.ReducesTo [0, 1, 2, 3] S_
  h_S_ : 0 < S_.numel
  bcast_S_S128x16x16x64 : S_.BroadcastsInDim S128x16x16x64 (![] : Fin 0 → Fin S128x16x16x64.rank)
  reducesTo_S128x16x16x64_S_d0_1_2_3 : S128x16x16x64.ReducesTo [0, 1, 2, 3] S_
  bcast_S_S16 : S_.BroadcastsInDim S16 (![] : Fin 0 → Fin S16.rank)
  reducesTo_S16_S_d0 : S16.ReducesTo [0] S_
  reducesTo_S16x128_S_d0_1 : S16x128.ReducesTo [0, 1] S_

variable [Facts]

def fn_part1 {F : FTy → Type} [FloatOps F] (main_arg4 : IVec S16 32) (main_v3 : IVec S16x128 1) (main_v8 : IVec S16x128 1) (main_v17 : IVec S_ 1) : IVec S_ 1 :=
  let main_c_4 : IVec S_ 32 := constantI S_ 32 1#32
  let main_v18 : IVec S16 32 := broadcastInDim S16 ![] bcast_S_S16 main_c_4
  let main_v19 : IVec S16 1 := cmpi .sge main_arg4 main_v18
  let main_c_5 : IVec S_ 1 := constantI S_ 1 1#1
  let main_v20 : IVec S_ 1 := (fun x v => Host.reduce IntOp.andi x v reducesTo_S16_S_d0 h_S_) main_v19 main_c_5
  let main_v21 : IVec S_ 1 := andi main_v17 main_v20
  let main_v22 : IVec S16x128 1 := ori main_v3 main_v8
  let main_c_6 : IVec S_ 1 := constantI S_ 1 1#1
  let main_v23 : IVec S_ 1 := (fun x v => Host.reduce IntOp.andi x v reducesTo_S16x128_S_d0_1 h_S_) main_v22 main_c_6
  let main_v24 : IVec S_ 1 := andi main_v21 main_v23
  main_v24

def fn {F : FTy → Type} [FloatOps F] (main_arg0 : FVec F S16x1x16x64 .f32) (main_arg1 : FVec F S128x16x16x64 .f32) (main_arg2 : FVec F S128x16x16x64 .f32) (main_arg3 : IVec S16x128 32) (main_arg4 : IVec S16 32) : IVec S_ 1 :=
  let main_v0 : IVec S16x128 32 := iotaInDim S16x128 32 1
  let main_v1 : IVec S16x1 32 := shapeCast S16x1 main_arg4 shapeCasts_S16_S16x1
  let main_v2 : IVec S16x128 32 := broadcastInDim S16x128 ![0, 1] bcast_S16x1_S16x128_0_1 main_v1
  let main_v3 : IVec S16x128 1 := cmpi .sge main_v0 main_v2
  let main_c : IVec S_ 32 := constantI S_ 32 0#32
  let main_v4 : IVec S16x128 32 := broadcastInDim S16x128 ![] bcast_S_S16x128 main_c
  let main_v5 : IVec S16x128 1 := cmpi .sge main_arg3 main_v4
  let main_c_0 : IVec S_ 32 := constantI S_ 32 256#32
  let main_v6 : IVec S16x128 32 := broadcastInDim S16x128 ![] bcast_S_S16x128 main_c_0
  let main_v7 : IVec S16x128 1 := cmpi .slt main_arg3 main_v6
  let main_v8 : IVec S16x128 1 := andi main_v5 main_v7
  let main_v9 : FVec F S16x1x16x64 .f32 := Host.absf main_arg0
  let main_cst : FVec F S_ .f32 := constant S_ .f32 0x7F800000#32
  let main_v10 : FVec F S16x1x16x64 .f32 := broadcastInDim S16x1x16x64 ![] bcast_S_S16x1x16x64 main_cst
  let main_v11 : IVec S16x1x16x64 1 := cmpf .olt main_v9 main_v10
  let main_c_1 : IVec S_ 1 := constantI S_ 1 1#1
  let main_v12 : IVec S_ 1 := (fun x v => Host.reduce IntOp.andi x v reducesTo_S16x1x16x64_S_d0_1_2_3 h_S_) main_v11 main_c_1
  let main_v13 : FVec F S128x16x16x64 .f32 := Host.absf main_arg1
  let main_cst_2 : FVec F S_ .f32 := constant S_ .f32 0x7F800000#32
  let main_v14 : FVec F S128x16x16x64 .f32 := broadcastInDim S128x16x16x64 ![] bcast_S_S128x16x16x64 main_cst_2
  let main_v15 : IVec S128x16x16x64 1 := cmpf .olt main_v13 main_v14
  let main_c_3 : IVec S_ 1 := constantI S_ 1 1#1
  let main_v16 : IVec S_ 1 := (fun x v => Host.reduce IntOp.andi x v reducesTo_S128x16x16x64_S_d0_1_2_3 h_S_) main_v15 main_c_3
  let main_v17 : IVec S_ 1 := andi main_v12 main_v16
  fn_part1 (F := F) main_arg4 main_v3 main_v8 main_v17
-- ==== Pre_well_formed_ReferenceIdeal.lean ====
abbrev S16x1x16x64 : Shape := ⟨4, ![16, 1, 16, 64]⟩
abbrev S256x16x16x64 : Shape := ⟨4, ![256, 16, 16, 64]⟩
abbrev S16x128 : Shape := ⟨2, ![16, 128]⟩
abbrev S16 : Shape := ⟨1, ![16]⟩
abbrev S16x1 : Shape := ⟨2, ![16, 1]⟩
abbrev S_ : Shape := ⟨0, ![]⟩

class Facts : Prop where
  shapeCasts_S16_S16x1 : S16.ShapeCasts S16x1
  bcast_S16x1_S16x128_0_1 : S16x1.BroadcastsInDim S16x128 (![0, 1] : Fin 2 → Fin S16x128.rank)
  bcast_S_S16x128 : S_.BroadcastsInDim S16x128 (![] : Fin 0 → Fin S16x128.rank)
  bcast_S_S16x1x16x64 : S_.BroadcastsInDim S16x1x16x64 (![] : Fin 0 → Fin S16x1x16x64.rank)
  reducesTo_S16x1x16x64_S_d0_1_2_3 : S16x1x16x64.ReducesTo [0, 1, 2, 3] S_
  h_S_ : 0 < S_.numel
  bcast_S_S256x16x16x64 : S_.BroadcastsInDim S256x16x16x64 (![] : Fin 0 → Fin S256x16x16x64.rank)
  reducesTo_S256x16x16x64_S_d0_1_2_3 : S256x16x16x64.ReducesTo [0, 1, 2, 3] S_
  bcast_S_S16 : S_.BroadcastsInDim S16 (![] : Fin 0 → Fin S16.rank)
  reducesTo_S16_S_d0 : S16.ReducesTo [0] S_
  reducesTo_S16x128_S_d0_1 : S16x128.ReducesTo [0, 1] S_

variable [Facts]

def fn_part1 {F : FTy → Type} [FloatOps F] (main_arg4 : IVec S16 32) (main_v3 : IVec S16x128 1) (main_v8 : IVec S16x128 1) (main_v17 : IVec S_ 1) : IVec S_ 1 :=
  let main_c_4 : IVec S_ 32 := constantI S_ 32 1#32
  let main_v18 : IVec S16 32 := broadcastInDim S16 ![] bcast_S_S16 main_c_4
  let main_v19 : IVec S16 1 := cmpi .sge main_arg4 main_v18
  let main_c_5 : IVec S_ 1 := constantI S_ 1 1#1
  let main_v20 : IVec S_ 1 := (fun x v => Host.reduce IntOp.andi x v reducesTo_S16_S_d0 h_S_) main_v19 main_c_5
  let main_v21 : IVec S_ 1 := andi main_v17 main_v20
  let main_v22 : IVec S16x128 1 := ori main_v3 main_v8
  let main_c_6 : IVec S_ 1 := constantI S_ 1 1#1
  let main_v23 : IVec S_ 1 := (fun x v => Host.reduce IntOp.andi x v reducesTo_S16x128_S_d0_1 h_S_) main_v22 main_c_6
  let main_v24 : IVec S_ 1 := andi main_v21 main_v23
  main_v24

def fn {F : FTy → Type} [FloatOps F] (main_arg0 : FVec F S16x1x16x64 .f32) (main_arg1 : FVec F S256x16x16x64 .f32) (main_arg2 : FVec F S256x16x16x64 .f32) (main_arg3 : IVec S16x128 32) (main_arg4 : IVec S16 32) : IVec S_ 1 :=
  let main_v0 : IVec S16x128 32 := iotaInDim S16x128 32 1
  let main_v1 : IVec S16x1 32 := shapeCast S16x1 main_arg4 shapeCasts_S16_S16x1
  let main_v2 : IVec S16x128 32 := broadcastInDim S16x128 ![0, 1] bcast_S16x1_S16x128_0_1 main_v1
  let main_v3 : IVec S16x128 1 := cmpi .sge main_v0 main_v2
  let main_c : IVec S_ 32 := constantI S_ 32 0#32
  let main_v4 : IVec S16x128 32 := broadcastInDim S16x128 ![] bcast_S_S16x128 main_c
  let main_v5 : IVec S16x128 1 := cmpi .sge main_arg3 main_v4
  let main_c_0 : IVec S_ 32 := constantI S_ 32 256#32
  let main_v6 : IVec S16x128 32 := broadcastInDim S16x128 ![] bcast_S_S16x128 main_c_0
  let main_v7 : IVec S16x128 1 := cmpi .slt main_arg3 main_v6
  let main_v8 : IVec S16x128 1 := andi main_v5 main_v7
  let main_v9 : FVec F S16x1x16x64 .f32 := Host.absf main_arg0
  let main_cst : FVec F S_ .f32 := constant S_ .f32 0x7F800000#32
  let main_v10 : FVec F S16x1x16x64 .f32 := broadcastInDim S16x1x16x64 ![] bcast_S_S16x1x16x64 main_cst
  let main_v11 : IVec S16x1x16x64 1 := cmpf .olt main_v9 main_v10
  let main_c_1 : IVec S_ 1 := constantI S_ 1 1#1
  let main_v12 : IVec S_ 1 := (fun x v => Host.reduce IntOp.andi x v reducesTo_S16x1x16x64_S_d0_1_2_3 h_S_) main_v11 main_c_1
  let main_v13 : FVec F S256x16x16x64 .f32 := Host.absf main_arg1
  let main_cst_2 : FVec F S_ .f32 := constant S_ .f32 0x7F800000#32
  let main_v14 : FVec F S256x16x16x64 .f32 := broadcastInDim S256x16x16x64 ![] bcast_S_S256x16x16x64 main_cst_2
  let main_v15 : IVec S256x16x16x64 1 := cmpf .olt main_v13 main_v14
  let main_c_3 : IVec S_ 1 := constantI S_ 1 1#1
  let main_v16 : IVec S_ 1 := (fun x v => Host.reduce IntOp.andi x v reducesTo_S256x16x16x64_S_d0_1_2_3 h_S_) main_v15 main_c_3
  let main_v17 : IVec S_ 1 := andi main_v12 main_v16
  fn_part1 (F := F) main_arg4 main_v3 main_v8 main_v17
-- ==== Kernel.lean ====
abbrev S16x1x16x64 : Shape := ⟨4, ![16, 1, 16, 64]⟩
abbrev S128x16x16x64 : Shape := ⟨4, ![128, 16, 16, 64]⟩
abbrev S16x128 : Shape := ⟨2, ![16, 128]⟩
abbrev S16 : Shape := ⟨1, ![16]⟩
abbrev S16x16x64x128 : Shape := ⟨4, ![16, 16, 64, 128]⟩
abbrev S16x1 : Shape := ⟨2, ![16, 1]⟩
abbrev S16x1056 : Shape := ⟨2, ![16, 1056]⟩
abbrev S_ : Shape := ⟨0, ![]⟩
abbrev S1 : Shape := ⟨1, ![1]⟩
abbrev S16x128x1 : Shape := ⟨3, ![16, 128, 1]⟩
abbrev S16x128x128 : Shape := ⟨3, ![16, 128, 128]⟩
abbrev S16x1x1 : Shape := ⟨3, ![16, 1, 1]⟩
abbrev S1x16x128 : Shape := ⟨3, ![1, 16, 128]⟩
abbrev S16x16x128 : Shape := ⟨3, ![16, 16, 128]⟩
abbrev S256x128 : Shape := ⟨2, ![256, 128]⟩
abbrev S16x1024 : Shape := ⟨2, ![16, 1024]⟩
abbrev S1x16x1024 : Shape := ⟨3, ![1, 16, 1024]⟩
abbrev S16x16x1024 : Shape := ⟨3, ![16, 16, 1024]⟩
abbrev S256x1024 : Shape := ⟨2, ![256, 1024]⟩
abbrev S256x1 : Shape := ⟨2, ![256, 1]⟩
abbrev S1x16x64x128 : Shape := ⟨4, ![1, 16, 64, 128]⟩
abbrev S16x64x128 : Shape := ⟨3, ![16, 64, 128]⟩
abbrev S1024x128 : Shape := ⟨2, ![1024, 128]⟩
abbrev S256 : Shape := ⟨1, ![256]⟩
abbrev S16x64 : Shape := ⟨2, ![16, 64]⟩
abbrev S16x16 : Shape := ⟨2, ![16, 16]⟩

abbrev nBuf : Space → Nat
  | .hbm => 9
  | .vmem => 8
  | .smem => 0
  | _ => 0

abbrev bufTy : (tb : Table) → Fin (tcTables nBuf tb) → BufTy
  | .hbm, ⟨0, _⟩ => ⟨S16x1x16x64, .f32⟩
  | .hbm, ⟨1, _⟩ => ⟨S128x16x16x64, .f32⟩
  | .hbm, ⟨2, _⟩ => ⟨S128x16x16x64, .f32⟩
  | .hbm, ⟨3, _⟩ => ⟨S16x128, .i32⟩
  | .hbm, ⟨4, _⟩ => ⟨S16, .i32⟩
  | .hbm, ⟨5, _⟩ => ⟨S16x16x64x128, .f32⟩
  | .hbm, ⟨6, _⟩ => ⟨S16x16x64x128, .f32⟩
  | .hbm, ⟨7, _⟩ => ⟨S16x1, .i32⟩
  | .hbm, ⟨8, _⟩ => ⟨S16x1x16x64, .f32⟩
  | .local _ .vmem, ⟨0, _⟩ => ⟨S16x1x16x64, .f32⟩
  | .local _ .vmem, ⟨1, _⟩ => ⟨S16x128, .i32⟩
  | .local _ .vmem, ⟨2, _⟩ => ⟨S16x1, .i32⟩
  | .local _ .vmem, ⟨3, _⟩ => ⟨S16x1x16x64, .f32⟩
  | .local _ .vmem, ⟨4, _⟩ => ⟨S16x16x64x128, .f32⟩
  | .local _ .vmem, ⟨5, _⟩ => ⟨S16x16x64x128, .f32⟩
  | .local _ .vmem, ⟨6, _⟩ => ⟨S16x1056, .f32⟩
  | .local _ .vmem, ⟨7, _⟩ => ⟨S16x1056, .f32⟩
  | _, _ => ⟨S16x1x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  (ofTc nBuf bufTy 1 38 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_6 : BitVec 32 := 0#32
  let c1_i32 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v3 : BitVec 32 := Scalar.subi c1_i32 v2
  let c16_i32_5 : BitVec 32 := 16#32
  let v15 : BitVec 32 := Scalar.muli v3 c16_i32_5
  let v16 : BitVec 32 := Scalar.addi c0_i32_6 v15
  let v4 : BitVec 32 := Dev.word d0
  let c4_i32_0 : BitVec 32 := 4#32
  let v5 : BitVec 32 := Scalar.divsi v4 c4_i32_0
  let c4_i32 : BitVec 32 := 4#32
  let v6 : BitVec 32 := Scalar.remsi v5 c4_i32
  let c4_i32_7 : BitVec 32 := 4#32
  let v17 : BitVec 32 := Scalar.muli v6 c4_i32_7
  let v18 : BitVec 32 := Scalar.addi v16 v17
  let v7 : BitVec 32 := Dev.word d0
  let c1_i32_2 : BitVec 32 := 1#32
  let v8 : BitVec 32 := Scalar.divsi v7 c1_i32_2
  let c4_i32_1 : BitVec 32 := 4#32
  let v9 : BitVec 32 := Scalar.remsi v8 c4_i32_1
  let c1_i32_8 : BitVec 32 := 1#32
  let v19 : BitVec 32 := Scalar.muli v9 c1_i32_8
  let v20 : BitVec 32 := Scalar.addi v18 v19
  v20.toNat
def k0_dev2 (d0 : Dev nD) : Nat :=
  let c0_i32_279 : BitVec 32 := 0#32
  let c1_i32 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v3 : BitVec 32 := Scalar.subi c1_i32 v2
  let c16_i32_278 : BitVec 32 := 16#32
  let v640 : BitVec 32 := Scalar.muli v3 c16_i32_278
  let v641 : BitVec 32 := Scalar.addi c0_i32_279 v640
  let v4 : BitVec 32 := Dev.word d0
  let c4_i32_0 : BitVec 32 := 4#32
  let v5 : BitVec 32 := Scalar.divsi v4 c4_i32_0
  let c4_i32 : BitVec 32 := 4#32
  let v6 : BitVec 32 := Scalar.remsi v5 c4_i32
  let c4_i32_280 : BitVec 32 := 4#32
  let v642 : BitVec 32 := Scalar.muli v6 c4_i32_280
  let v643 : BitVec 32 := Scalar.addi v641 v642
  let v7 : BitVec 32 := Dev.word d0
  let c1_i32_2 : BitVec 32 := 1#32
  let v8 : BitVec 32 := Scalar.divsi v7 c1_i32_2
  let c4_i32_1 : BitVec 32 := 4#32
  let v9 : BitVec 32 := Scalar.remsi v8 c4_i32_1
  let c1_i32_281 : BitVec 32 := 1#32
  let v644 : BitVec 32 := Scalar.muli v9 c1_i32_281
  let v645 : BitVec 32 := Scalar.addi v643 v644
  v645.toNat
abbrev stage0_0 : Fin 1 → Memref sig .tc .vmem S16x1x16x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x128 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x1x16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S16x1x16x64 : Shape := ⟨4, ![16, 1, 16, 64]⟩
abbrev S256x16x16x64 : Shape := ⟨4, ![256, 16, 16, 64]⟩
abbrev S16x128 : Shape := ⟨2, ![16, 128]⟩
abbrev S16 : Shape := ⟨1, ![16]⟩
abbrev S_ : Shape := ⟨0, ![]⟩
abbrev S16x128x1 : Shape := ⟨3, ![16, 128, 1]⟩
abbrev S16x128x16x16x64 : Shape := ⟨5, ![16, 128, 16, 16, 64]⟩
abbrev S16x16x1x128x16 : Shape := ⟨5, ![16, 16, 1, 128, 16]⟩
abbrev S16x1x1x128x1 : Shape := ⟨5, ![16, 1, 1, 128, 1]⟩
abbrev S16x1x1x1x1 : Shape := ⟨5, ![16, 1, 1, 1, 1]⟩
abbrev S16x16x1 : Shape := ⟨3, ![16, 16, 1]⟩
abbrev S16x16x1x1x1 : Shape := ⟨5, ![16, 16, 1, 1, 1]⟩
abbrev S16x16x64x1 : Shape := ⟨4, ![16, 16, 64, 1]⟩

abbrev nBuf : Space → Nat
  | .hbm => 49
  | .vmem => 0
  | .smem => 0
  | _ => 0

abbrev bufTy : (tb : Table) → Fin (tcTables nBuf tb) → BufTy
  | .hbm, ⟨0, _⟩ => ⟨S16x1x16x64, .f32⟩
  | .hbm, ⟨1, _⟩ => ⟨S256x16x16x64, .f32⟩
  | .hbm, ⟨2, _⟩ => ⟨S256x16x16x64, .f32⟩
  | .hbm, ⟨3, _⟩ => ⟨S16x128, .i32⟩
  | .hbm, ⟨4, _⟩ => ⟨S16, .i32⟩
  | .hbm, ⟨5, _⟩ => ⟨S_, .i32⟩
  | .hbm, ⟨6, _⟩ => ⟨S16x128, .i32⟩
  | .hbm, ⟨7, _⟩ => ⟨S16x128, .i1⟩
  | .hbm, ⟨8, _⟩ => ⟨S_, .i32⟩
  | .hbm, ⟨9, _⟩ => ⟨S16x128, .i32⟩
  | .hbm, ⟨10, _⟩ => ⟨S16x128, .i32⟩
  | .hbm, ⟨11, _⟩ => ⟨S16x128, .i32⟩
  | .hbm, ⟨12, _⟩ => ⟨S16x128x1, .i32⟩
  | .hbm, ⟨13, _⟩ => ⟨S16x128x16x16x64, .f32⟩
  | .hbm, ⟨14, _⟩ => ⟨S_, .i32⟩
  | .hbm, ⟨15, _⟩ => ⟨S16x128, .i32⟩
  | .hbm, ⟨16, _⟩ => ⟨S16x128, .i1⟩
  | .hbm, ⟨17, _⟩ => ⟨S_, .i32⟩
  | .hbm, ⟨18, _⟩ => ⟨S16x128, .i32⟩
  | .hbm, ⟨19, _⟩ => ⟨S16x128, .i32⟩
  | .hbm, ⟨20, _⟩ => ⟨S16x128, .i32⟩
  | .hbm, ⟨21, _⟩ => ⟨S16x128x1, .i32⟩
  | .hbm, ⟨22, _⟩ => ⟨S16x128x16x16x64, .f32⟩
  | .hbm, ⟨23, _⟩ => ⟨S16x16x1x128x16, .f32⟩
  | .hbm, ⟨24, _⟩ => ⟨S_, .f32⟩
  | .hbm, ⟨25, _⟩ => ⟨S16x16x1x128x16, .f32⟩
  | .hbm, ⟨26, _⟩ => ⟨S16x16x1x128x16, .f32⟩
  | .hbm, ⟨27, _⟩ => ⟨S16x1x1x128x1, .i32⟩
  | .hbm, ⟨28, _⟩ => ⟨S16x1x1x1x1, .i32⟩
  | .hbm, ⟨29, _⟩ => ⟨S16x1x1x128x1, .i32⟩
  | .hbm, ⟨30, _⟩ => ⟨S16x1x1x128x1, .i1⟩
  | .hbm, ⟨31, _⟩ => ⟨S_, .f32⟩
  | .hbm, ⟨32, _⟩ => ⟨S_, .f32⟩
  | .hbm, ⟨33, _⟩ => ⟨S16x16x1x128x16, .i1⟩
  | .hbm, ⟨34, _⟩ => ⟨S16x16x1x128x16, .f32⟩
  | .hbm, ⟨35, _⟩ => ⟨S16x16x1x128x16, .f32⟩
  | .hbm, ⟨36, _⟩ => ⟨S_, .f32⟩
  | .hbm, ⟨37, _⟩ => ⟨S16x16x1, .f32⟩
  | .hbm, ⟨38, _⟩ => ⟨S16x16x1x1x1, .f32⟩
  | .hbm, ⟨39, _⟩ => ⟨S16x16x1x128x16, .f32⟩
  | .hbm, ⟨40, _⟩ => ⟨S16x16x1x128x16, .f32⟩
  | .hbm, ⟨41, _⟩ => ⟨S16x16x1x128x16, .f32⟩
  | .hbm, ⟨42, _⟩ => ⟨S_, .f32⟩
  | .hbm, ⟨43, _⟩ => ⟨S16x16x1, .f32⟩
  | .hbm, ⟨44, _⟩ => ⟨S16x16x1x1x1, .f32⟩
  | .hbm, ⟨45, _⟩ => ⟨S16x16x1x128x16, .f32⟩
  | .hbm, ⟨46, _⟩ => ⟨S16x16x1x128x16, .f32⟩
  | .hbm, ⟨47, _⟩ => ⟨S16x16x64x1, .f32⟩
  | .hbm, ⟨48, _⟩ => ⟨S16x1x16x64, .f32⟩
  | _, _ => ⟨S16x1x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩

abbrev nD : Nat := 1
abbrev τ : Topo := Topo.v7x

variable {F : FTy → Type} [FloatOps F]
-- ==== Proof.KernelIdeal.Protocol.lean ====
/-
  How the devices of the kernel talk. The mesh is cut into pairs: a device and the one whose pages are the other half,
  sixteen places away. In one call every device does five things that complete on a semaphore:

    * it copies its own transposed keys into a scratch buffer,
    * it copies its own transposed values into another,
    * it tells its partner "my landing buffer is free" (one unit on the partner's barrier semaphore),
    * it sends its summary — the partial numerators, maxima and sums — into the partner's landing buffer,
    * and its partner's summary arrives in its own.

  So every device has five cells, each used for one round with one duty. This module names the cells, says what every
  completion hands over, and proves the facts about levels that let a device wait while it still owes a copy.
-/
module

public import proofs.«01_k».proof.Proof.Gen.KernelIdeal.Frame
public import Idealize.ShloMosaic.Lib.Rounds
public import Idealize.ShloMosaic.Lib.Pipeline.RegionTalk

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Pairs of devices -/

/-- The partner: the same place of the mesh with the other half of the pages. -/
def partner (c : Dev nD) : Dev nD := ⟨(c.val + 16) % 32, Nat.mod_lt _ (by decide)⟩
theorem partner_partner (c : Dev nD) : partner (partner c) = c := by revert c; decide
/-- Partners as a permutation of the mesh. -/
def swap : Dev nD ≃ Dev nD := ⟨partner, partner, partner_partner, partner_partner⟩

theorem dev1_eq (c : Dev nD) (h : k0_dev1 c < nD) : (⟨k0_dev1 c, h⟩ : Dev nD) = partner c := by
  apply Fin.ext; revert c; decide +kernel
theorem dev2_eq (c : Dev nD) (h : k0_dev2 c < nD) : (⟨k0_dev2 c, h⟩ : Dev nD) = partner c := by
  apply Fin.ext; revert c; decide +kernel

/-! ## Buffers, semaphores, cells -/

/-- Resources of the pipeline library and of this protocol, side by side. -/
abbrev UU : Type := UR sig nD τ × UR sig nD τ

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR

abbrev kSrc : Memref sig .tc .hbm S16x16x64x128 .f32 := Memref.whole main_v1
abbrev vSrc : Memref sig .tc .hbm S16x16x64x128 .f32 := Memref.whole main_v2
abbrev kBuf : Memref sig .tc .vmem S16x16x64x128 .f32 := Memref.whole cc0_scratch0
abbrev vBuf : Memref sig .tc .vmem S16x16x64x128 .f32 := Memref.whole cc0_scratch1
abbrev outBox : Memref sig .tc .vmem S16x1056 .f32 := Memref.whole cc0_scratch2
abbrev inBox : Memref sig .tc .vmem S16x1056 .f32 := Memref.whole cc0_scratch3

abbrev kSem : DmaSem sig := ⟨4, by decide⟩
abbrev vSem : DmaSem sig := ⟨20, by decide⟩
abbrev sendSem : DmaSem sig := ⟨36, by decide⟩
abbrev recvSem : DmaSem sig := ⟨37, by decide⟩

abbrev barCell (c : Dev nD) : GSem nD τ sig := ((c : Thread nD τ), .reg barrier0)
abbrev kCell (c : Dev nD) : GSem nD τ sig := ((c : Thread nD τ), .dma kSem)
abbrev vCell (c : Dev nD) : GSem nD τ sig := ((c : Thread nD τ), .dma vSem)
abbrev sendCell (c : Dev nD) : GSem nD τ sig := ((c : Thread nD τ), .dma sendSem)
abbrev recvCell (c : Dev nD) : GSem nD τ sig := ((c : Thread nD τ), .dma recvSem)

/-- What a copy of the keys (or of the values) adds to its semaphore, and what a copy of a summary adds. -/
@[irreducible] def bigN : ℕ := (kBuf : Memref sig .tc .vmem S16x16x64x128 .f32).view.dmaCredit
@[irreducible] def boxN : ℕ := (inBox : Memref sig .tc .vmem S16x1056 .f32).view.dmaCredit
theorem bigN_pos : 0 < bigN := by unfold bigN; exact View.dmaCredit_pos _ (by decide)
theorem boxN_pos : 0 < boxN := by unfold boxN; exact View.dmaCredit_pos _ (by decide)

/-- What moves: every device's transposed keys and values, and the summary it sends. -/
structure Traffic (F : FTy → Type) where
  keys : Dev nD → (main_v1 : Ref sig .tc).ty.Contents (Elt F)
  vals : Dev nD → (main_v2 : Ref sig .tc).ty.Contents (Elt F)
  sent : Dev nD → (cc0_scratch2 : Ref sig .tc).ty.Contents (Elt F)

variable (X : Traffic F)

/-- A buffer of device `c`, whole, at the contents `f`, as its view holds it. -/
abbrev holds {sp : Space} {s : Shape} {e : EltTy} (r : Memref sig .tc sp s e) (c : Dev nD)
    (f : Buf (Elt F) (r.view.loc (c : Thread nD τ))) : sProp 𝕄 :=
  r.view.loc (c : Thread nD τ) ↦[r.view.set]{fullShare} f

/-! ## What a completion hands over -/

/-- With the partner's "ready": the partner's landing buffer, and that its arrival cell is set up. -/
def barPay (c : Dev nD) : sProp 𝕄 := iprop((∃ f, holds inBox (partner c) f) ∗ reached ER (recvCell (partner c)) 0)
/-- With the copy of the keys: the keys in the scratch buffer, and the array they came from. -/
def kPay (c : Dev nD) : sProp 𝕄 := iprop(holds kBuf c (X.keys c) ∗ holds kSrc c (X.keys c))
def vPay (c : Dev nD) : sProp 𝕄 := iprop(holds vBuf c (X.vals c) ∗ holds vSrc c (X.vals c))
/-- With the departure: the summary's buffer. With the arrival: the landing buffer at the partner's summary. -/
def sendPay (c : Dev nD) : sProp 𝕄 := holds outBox c (X.sent c)
def recvPay (c : Dev nD) : sProp 𝕄 := holds inBox c (X.sent (partner c))

/-- Everything on the five semaphores happens in round 0, once. -/
def plan : Rounds.Schedule (GSem nD τ sig) Unit 𝕄 where
  duties g r := if r = 0 ∧ g.1.2 = .tc ∧ (g.2 = .reg barrier0 ∨ g.2 = .dma kSem ∨ g.2 = .dma vSem ∨ g.2 = .dma sendSem ∨ g.2 = .dma recvSem)
    then {()} else ∅
  unitless _ := False
  amount g _ _ := if g.2 = .reg barrier0 then 1 else if g.2 = .dma kSem ∨ g.2 = .dma vSem then bigN else boxN
  payload g _ _ :=
    if g.2 = .reg barrier0 then barPay g.1.1
    else if g.2 = .dma kSem then kPay X g.1.1
    else if g.2 = .dma vSem then vPay X g.1.1
    else if g.2 = .dma sendSem then sendPay X g.1.1
    else if g.2 = .dma recvSem then recvPay X g.1.1
    else iprop(emp)
  amount_pos g _ _ _ := by
    split
    · exact Nat.one_pos
    · split
      · exact bigN_pos
      · exact boxN_pos

instance plan_payload_storable (g : GSem nD τ sig) (r : ℕ) (d : Unit) :
    BI.Storable (upEmb : UEmb _ 𝕄) ((plan X).payload g r d) := by
  dsimp only [plan]
  unfold barPay kPay vPay sendPay recvPay
  (repeat' split) <;> infer_instance

section Tables

variable (c : Dev nD)

theorem k_ne_bar : (SemLoc.dma kSem : SemLoc sig) ≠ .reg barrier0 := fun h => by cases h
theorem v_ne_bar : (SemLoc.dma vSem : SemLoc sig) ≠ .reg barrier0 := fun h => by cases h
theorem send_ne_bar : (SemLoc.dma sendSem : SemLoc sig) ≠ .reg barrier0 := fun h => by cases h
theorem recv_ne_bar : (SemLoc.dma recvSem : SemLoc sig) ≠ .reg barrier0 := fun h => by cases h

theorem duties_bar : (plan X).duties (barCell c) 0 = {()} := by dsimp only [plan]; exact if_pos ⟨rfl, rfl, .inl rfl⟩
theorem duties_k : (plan X).duties (kCell c) 0 = {()} := by dsimp only [plan]; exact if_pos ⟨rfl, rfl, .inr (.inl rfl)⟩
theorem duties_v : (plan X).duties (vCell c) 0 = {()} := by dsimp only [plan]; exact if_pos ⟨rfl, rfl, .inr (.inr (.inl rfl))⟩
theorem duties_send : (plan X).duties (sendCell c) 0 = {()} := by dsimp only [plan]; exact if_pos ⟨rfl, rfl, .inr (.inr (.inr (.inl rfl)))⟩
theorem duties_recv : (plan X).duties (recvCell c) 0 = {()} := by dsimp only [plan]; exact if_pos ⟨rfl, rfl, .inr (.inr (.inr (.inr rfl)))⟩
theorem duties_after (g : GSem nD τ sig) : ∀ r, 1 ≤ r → (plan X).duties g r = ∅ :=
  fun r hr => by dsimp only [plan]; exact if_neg fun h => by omega

theorem amount_bar (u : Unit) : (plan X).amount (barCell c) 0 u = 1 := by dsimp only [plan]; exact if_pos rfl
theorem amount_k (u : Unit) : (plan X).amount (kCell c) 0 u = bigN := by
  dsimp only [plan]; rw [if_neg k_ne_bar, if_pos (Or.inl rfl)]
theorem amount_v (u : Unit) : (plan X).amount (vCell c) 0 u = bigN := by
  dsimp only [plan]; rw [if_neg v_ne_bar, if_pos (Or.inr rfl)]
theorem amount_send (u : Unit) : (plan X).amount (sendCell c) 0 u = boxN := by
  dsimp only [plan]; rw [if_neg send_ne_bar, if_neg (by decide)]
theorem amount_recv (u : Unit) : (plan X).amount (recvCell c) 0 u = boxN := by
  dsimp only [plan]; rw [if_neg recv_ne_bar, if_neg (by decide)]

/-- With one duty, the round completes at that duty's amount, and hands over that duty's payload. -/
theorem expect_one (g : GSem nD τ sig) (n : ℕ) (hd : (plan X).duties g 0 = {()}) (ha : (plan X).amount g 0 () = n) :
    (plan X).expect g 0 = n := by
  rw [Schedule.expect, hd, Schedule.amountOf, Finset.sum_singleton, ha]
theorem due_one (g : GSem nD τ sig) (P : sProp 𝕄) (hd : (plan X).duties g 0 = {()}) (hp : (plan X).payload g 0 () = P) :
    bigSep ((plan X).duties g 0 \ ∅) (fun u => (plan X).payload g 0 u) = P := by
  rw [Finset.sdiff_empty, hd, bigSep_singleton, hp]

theorem expect_bar : (plan X).expect (barCell c) 0 = 1 := expect_one X _ _ (duties_bar X c) (amount_bar X c ())
theorem expect_k : (plan X).expect (kCell c) 0 = bigN := expect_one X _ _ (duties_k X c) (amount_k X c ())
theorem expect_v : (plan X).expect (vCell c) 0 = bigN := expect_one X _ _ (duties_v X c) (amount_v X c ())
theorem expect_send : (plan X).expect (sendCell c) 0 = boxN := expect_one X _ _ (duties_send X c) (amount_send X c ())
theorem expect_recv : (plan X).expect (recvCell c) 0 = boxN := expect_one X _ _ (duties_recv X c) (amount_recv X c ())

theorem payload_bar (u : Unit) : (plan X).payload (barCell c) 0 u = barPay c := by dsimp only [plan]; exact if_pos rfl
theorem payload_k (u : Unit) : (plan X).payload (kCell c) 0 u = kPay X c := by
  dsimp only [plan]; rw [if_neg k_ne_bar, if_pos rfl]
theorem payload_v (u : Unit) : (plan X).payload (vCell c) 0 u = vPay X c := by
  dsimp only [plan]; rw [if_neg v_ne_bar, if_neg (by decide), if_pos rfl]
theorem payload_send (u : Unit) : (plan X).payload (sendCell c) 0 u = sendPay X c := by
  dsimp only [plan]; rw [if_neg send_ne_bar, if_neg (by decide), if_neg (by decide), if_pos rfl]
theorem payload_recv (u : Unit) : (plan X).payload (recvCell c) 0 u = recvPay X c := by
  dsimp only [plan]; rw [if_neg recv_ne_bar, if_neg (by decide), if_neg (by decide), if_neg (by decide), if_pos rfl]

theorem due_bar : bigSep ((plan X).duties (barCell c) 0 \ ∅) (fun u => (plan X).payload (barCell c) 0 u) = barPay c :=
  due_one X _ _ (duties_bar X c) (payload_bar X c ())
theorem due_k : bigSep ((plan X).duties (kCell c) 0 \ ∅) (fun u => (plan X).payload (kCell c) 0 u) = kPay X c :=
  due_one X _ _ (duties_k X c) (payload_k X c ())
theorem due_v : bigSep ((plan X).duties (vCell c) 0 \ ∅) (fun u => (plan X).payload (vCell c) 0 u) = vPay X c :=
  due_one X _ _ (duties_v X c) (payload_v X c ())
theorem due_send : bigSep ((plan X).duties (sendCell c) 0 \ ∅) (fun u => (plan X).payload (sendCell c) 0 u) = sendPay X c :=
  due_one X _ _ (duties_send X c) (payload_send X c ())
theorem due_recv : bigSep ((plan X).duties (recvCell c) 0 \ ∅) (fun u => (plan X).payload (recvCell c) 0 u) = recvPay X c :=
  due_one X _ _ (duties_recv X c) (payload_recv X c ())

end Tables

/-! ## What a device owes, and the order of the waits -/

/-- The copy into the partner's landing buffer, owed until it is sent. -/
abbrev owedCopy (c : Dev nD) : CellTallies nD τ sig Unit := tallyAt (recvCell (partner c)) () boxN
/-- At the launch: that copy, and the unit on the partner's barrier. -/
def owedStart (c : Dev nD) : CellTallies nD τ sig Unit := owedCopy c + tallyAt (barCell (partner c)) () 1

def labels (g : GSem nD τ sig) : Finset Unit := if g.1.2 = .tc then {()} else ∅
/-- Arrivals above barriers, barriers above a device's own copies. -/
def height (g : GSem nD τ sig) (_ : Unit) : ℕ := if g.2 = .reg barrier0 then 1 else if g.2 = .dma recvSem then 2 else 0

theorem labels_of_ne (g : GSem nD τ sig) (h : g.1.2 ≠ .tc) : labels g = ∅ := if_neg h
theorem labels_tc (c : Dev nD) (sm : SemLoc sig) : labels ((c : Thread nD τ), sm) = {()} := if_pos rfl
theorem height_recv (c : Dev nD) : height (recvCell c) () = 2 := (if_neg recv_ne_bar).trans (if_pos rfl)
theorem height_bar (c : Dev nD) : height (barCell c) () = 1 := if_pos rfl

/-- A device that owes only the copy may wait on any of its semaphores but the one of arrivals. -/
theorem mayWait_owing (c : Dev nD) (sm : SemLoc sig) (hsm : height ((c : Thread nD τ), sm) () ≤ 1) :
    (levAts labels height : sProp 𝕄) ⊢ MayWait (c : Thread nD τ) sm () (owedCopy c) :=
  MayOwe.of_cut (L := labels) (lev := height) 1 (fun p hp => by rw [Finset.mem_singleton.mp hp, labels_tc]; exact Finset.mem_singleton_self _)
    (fun g u hg => by
      rw [tallyAt_apply] at hg
      by_cases h : g = recvCell (partner c) ∧ u = ()
      · rw [h.1, labels_tc]; exact Finset.mem_singleton_self _
      · rw [if_neg h] at hg; exact absurd hg (Nat.lt_irrefl 0))
    (fun p hp => by rw [Finset.mem_singleton.mp hp]; exact hsm)
    (fun g u hg => by
      rw [tallyAt_apply] at hg
      by_cases h : g = recvCell (partner c) ∧ u = ()
      · rw [h.1, height_recv]; decide
      · rw [if_neg h] at hg; exact absurd hg (Nat.lt_irrefl 0))

theorem mayWait_bar (c : Dev nD) : (levAts labels height : sProp 𝕄) ⊢ MayWait (c : Thread nD τ) (.reg barrier0) () (owedCopy c) :=
  mayWait_owing c _ (height_bar c).le
theorem mayWait_k (c : Dev nD) : (levAts labels height : sProp 𝕄) ⊢ MayWait (c : Thread nD τ) (.dma kSem) () (owedCopy c) :=
  mayWait_owing c _ (by unfold height; rw [if_neg k_ne_bar, if_neg (show ¬ (SemLoc.dma kSem : SemLoc sig) = .dma recvSem by decide)]; exact Nat.zero_le _)
theorem mayWait_v (c : Dev nD) : (levAts labels height : sProp 𝕄) ⊢ MayWait (c : Thread nD τ) (.dma vSem) () (owedCopy c) :=
  mayWait_owing c _ (by unfold height; rw [if_neg v_ne_bar, if_neg (show ¬ (SemLoc.dma vSem : SemLoc sig) = .dma recvSem by decide)]; exact Nat.zero_le _)

/-! ## The bookkeeping a device carries -/

/-- The records of the seven cells a device touches: its five, and two of its partner's. -/
def invs (K : GSem nD τ sig → ℕ) (c : Dev nD) : sProp 𝕄 :=
  iprop(cellInv ER (plan X) (K (barCell c)) (barCell c) ∗ cellInv ER (plan X) (K (kCell c)) (kCell c)
    ∗ cellInv ER (plan X) (K (vCell c)) (vCell c) ∗ cellInv ER (plan X) (K (sendCell c)) (sendCell c)
    ∗ cellInv ER (plan X) (K (recvCell c)) (recvCell c)
    ∗ cellInv ER (plan X) (K (barCell (partner c))) (barCell (partner c))
    ∗ cellInv ER (plan X) (K (recvCell (partner c))) (recvCell (partner c)))
instance invs_persistent (K : GSem nD τ sig → ℕ) (c : Dev nD) : BI.Persistent (invs X K c) := by unfold invs; infer_instance

/-- The rights to do the five things, each once. -/
def rights (c : Dev nD) : sProp 𝕄 :=
  iprop(dutyTok ER (barCell (partner c)) 0 () ∗ dutyTok ER (kCell c) 0 () ∗ dutyTok ER (vCell c) 0 ()
    ∗ dutyTok ER (sendCell c) 0 () ∗ dutyTok ER (recvCell (partner c)) 0 ())

/-- From the launch to the kernel's call: four of the cells are still closed. -/
def ghost (K : GSem nD τ sig → ℕ) (c : Dev nD) : sProp 𝕄 :=
  iprop(invs X K c ∗ atPos ER (barCell c) 0 ∅ 0
    ∗ (openTok ER (kCell c) ∗ openTok ER (vCell c) ∗ openTok ER (sendCell c) ∗ openTok ER (recvCell c))
    ∗ reached ER (barCell (partner c)) 0 ∗ rights c)

/-- In the kernel's body: all five are open. -/
def opened (K : GSem nD τ sig → ℕ) (c : Dev nD) : sProp 𝕄 :=
  iprop(invs X K c
    ∗ (atPos ER (barCell c) 0 ∅ 0 ∗ atPos ER (kCell c) 0 ∅ 0 ∗ atPos ER (vCell c) 0 ∅ 0 ∗ atPos ER (sendCell c) 0 ∅ 0 ∗ atPos ER (recvCell c) 0 ∅ 0)
    ∗ (reached ER (barCell (partner c)) 0 ∗ reached ER (kCell c) 0 ∗ reached ER (vCell c) 0 ∗ reached ER (sendCell c) 0 ∗ reached ER (recvCell c) 0)
    ∗ rights c)

/-- The two credits that the partner pays into. -/
def credits (c : Dev nD) : sProp 𝕄 := iprop(cred (tallyAt (barCell c) () 1) ∗ cred (tallyAt (recvCell c) () boxN))

/-- A cell past its round gives its counter back at zero. -/
theorem shut (κ : ℕ) (g : GSem nD τ sig) :
    iprop(cellInv ER (plan X) κ g ∗ atPos ER g (0 + 1) ∅ 0) ⊢ (|={Set.univ}=> semVal g 0 : sProp 𝕄) :=
  Rounds.cell_close ER (plan X) (Set.mem_univ κ) id (duties_after X g)

end Cert.KernelIdeal.Talk

end
-- ==== Proof.KernelIdeal.Steps.lean ====
/-
  The statements of the kernel's body that touch a semaphore, one lemma each: the two local copies, the unit to the
  partner's barrier, the copy to the partner, and the five waits. Every lemma says what the statement takes and what
  the rest of the program is given.
-/
module

public import proofs.«01_k».proof.Proof.KernelIdeal.Protocol
public import Idealize.ShloMosaic.Lib.Tactic

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Traffic F) (κ κ' : ℕ) (c : Dev nD) (W : Waits sig Unit)
variable {α : Type} {k : PUnit → Prog (TpuEff nD τ sig (Elt F) Λ₀ .tc) α}
variable {Q : α → sProp (MT nD τ sig Unit (Elt F) ℕ UU ℕ)}

/-- The copy of the keys is started: its credit is what is left. -/
theorem copy_keys {h₁ : (kSrc : Memref sig .tc .hbm S16x16x64x128 .f32).view.WordExact} {h₂ : (kBuf : Memref sig .tc .vmem S16x16x64x128 .f32).view.WordExact}
    {h₃ : DmaTarget.Typed (nD := nD) .hbm (SemLoc.dma kSem : SemLoc sig) (DmaTarget.here (p := (c : Thread nD τ).2) (kBuf : Memref sig .tc .vmem S16x16x64x128 .f32))}
    (f : Buf (Elt F) (kBuf.view.loc (c : Thread nD τ))) :
    iprop(cellInv ER (plan X) κ (kCell c) ∗ holds kSrc c (X.keys c) ∗ holds kBuf c f ∗ dutyTok ER (kCell c) 0 () ∗ reached ER (kCell c) 0)
      ⊢ iprop((cred (tallyAt (kCell c) () bigN) -∗ wp frame (wpE (defs₀ (F := F)) Variants.none (c : Thread nD τ) none) Set.univ (k ⟨⟩) Q)
          -∗ wp frame (wpE (defs₀ (F := F)) Variants.none (c : Thread nD τ) none) Set.univ (.op (.enqueueDma kSrc (.here kBuf) (.dma kSem) h₁ h₂ h₃) k) Q) :=
  Rounds.wp_copy_pointsTo Variants.none ER (plan X) (c : Thread nD τ) none (r := 0) (d := ())
    (by rw [duties_k]; exact Finset.mem_singleton_self _) () bigN (by unfold bigN; rfl) (amount_k X c ())
    (by rw [payload_k, kPay, holds, View.write_whole_univ, View.read_whole])

/-- So is the copy of the values. -/
theorem copy_vals {h₁ : (vSrc : Memref sig .tc .hbm S16x16x64x128 .f32).view.WordExact} {h₂ : (vBuf : Memref sig .tc .vmem S16x16x64x128 .f32).view.WordExact}
    {h₃ : DmaTarget.Typed (nD := nD) .hbm (SemLoc.dma vSem : SemLoc sig) (DmaTarget.here (p := (c : Thread nD τ).2) (vBuf : Memref sig .tc .vmem S16x16x64x128 .f32))}
    (f : Buf (Elt F) (vBuf.view.loc (c : Thread nD τ))) :
    iprop(cellInv ER (plan X) κ (vCell c) ∗ holds vSrc c (X.vals c) ∗ holds vBuf c f ∗ dutyTok ER (vCell c) 0 () ∗ reached ER (vCell c) 0)
      ⊢ iprop((cred (tallyAt (vCell c) () bigN) -∗ wp frame (wpE (defs₀ (F := F)) Variants.none (c : Thread nD τ) none) Set.univ (k ⟨⟩) Q)
          -∗ wp frame (wpE (defs₀ (F := F)) Variants.none (c : Thread nD τ) none) Set.univ (.op (.enqueueDma vSrc (.here vBuf) (.dma vSem) h₁ h₂ h₃) k) Q) :=
  Rounds.wp_copy_pointsTo Variants.none ER (plan X) (c : Thread nD τ) none (r := 0) (d := ())
    (by rw [duties_v]; exact Finset.mem_singleton_self _) () bigN (by unfold bigN; rfl) (amount_v X c ())
    (by rw [payload_v, vPay, holds, View.write_whole_univ, View.read_whole])

/-- "My landing buffer is free", to the device `n` that is the partner: the buffer goes with it. -/
theorem tell_partner (n : Dev nD) (hn : n = partner c) (f : Buf (Elt F) (inBox.view.loc (c : Thread nD τ))) :
    iprop(cellInv ER (plan X) κ (barCell (partner c)) ∗ owes (c : Thread nD τ) (owedStart c) W
        ∗ dutyTok ER (barCell (partner c)) 0 () ∗ holds inBox c f ∗ reached ER (recvCell c) 0 ∗ reached ER (barCell (partner c)) 0)
      ⊢ iprop((owes (c : Thread nD τ) (owedCopy c) W -∗ wp frame (wpE (defs₀ (F := F)) Variants.none (c : Thread nD τ) none) Set.univ (k ⟨⟩) Q)
          -∗ wp frame (wpE (defs₀ (F := F)) Variants.none (c : Thread nD τ) none) Set.univ (.op (.semSignal (n : Thread nD τ) barrier0 (1#32).toInt) k) Q) := by
  subst hn
  have h1 : (1#32 : BitVec 32).toInt = ((1 : ℕ) : ℤ) := rfl
  rw [h1]
  iintro ⟨#I, HO, T, H, #Rv, #Rb⟩
  iapply (Rounds.wp_signal Variants.none ER (plan X) (c : Thread nD τ) none (dst := (partner c : Thread nD τ)) (sem := barrier0) (r := 0) (d := ()) (κ := κ)
      (by rw [duties_bar]; exact Finset.mem_singleton_self _) (amount_bar X (partner c) ()) () (owedCopy c) rfl)
  isplitr; · iexact I
  isplitl [HO]; · iexact HO
  isplitl [T]; · iexact T
  isplitl [H]
  · rw [payload_bar]
    unfold barPay
    rw [partner_partner]
    isplitl [H]; · iexists f; iexact H
    iexact Rv
  iexact Rb

/-- The wait for the partner's unit, owing the copy to it. It brings the partner's landing buffer. -/
theorem wait_partner :
    iprop(cellInv ER (plan X) κ (barCell c) ∗ cred (tallyAt (barCell c) () 1) ∗ owes (c : Thread nD τ) (owedCopy c) W
        ∗ levAts labels height ∗ atPos ER (barCell c) 0 ∅ 0)
      ⊢ iprop(((∃ W', owes (c : Thread nD τ) (owedCopy c) W') ∗ atPos ER (barCell c) (0 + 1) ∅ 0 ∗ barPay c -∗ wp frame (wpE (defs₀ (F := F)) Variants.none (c : Thread nD τ) none) Set.univ (k ⟨⟩) Q)
          -∗ wp frame (wpE (defs₀ (F := F)) Variants.none (c : Thread nD τ) none) Set.univ (.op (.semWait barrier0 (1#32).toInt) k) Q) := by
  have h1 : (1#32 : BitVec 32).toInt = ((1 : ℕ) : ℤ) := rfl
  rw [h1]
  iintro ⟨#I, C, HO, #Hl, A⟩ Hk
  iapply (Rounds.wp_wait_rest_token Variants.none ER (plan X) (c : Thread nD τ) none (κ := κ)
      (wpE_semWait_eq Variants.none (c : Thread nD τ) none Set.univ) (Set.mem_univ _) () (O := owedCopy c) (W := W) (R := 0) (m := 0) (T := ∅)
      ((Nat.zero_add 1).trans (expect_bar X c).symm)) $$ [C HO A]
  · isplitr; · iexact I
    isplitl [C]; · iexact C
    isplitl [HO]; · iexact HO
    isplitr; · iapply (mayWait_bar c); iexact Hl
    iexact A
  iintro ⟨HO, A, -, P⟩
  ihave P := (Entails.of_eq (due_bar X c)) $$ P
  iapply Hk
  isplitl [HO]; · iexists _; iexact HO
  isplitl [A]; · iexact A
  iexact P

/-- The wait for the keys, still owing the copy. -/
theorem wait_keys {h₁ : (kSrc : Memref sig .tc .hbm S16x16x64x128 .f32).view.WordExact} {h₂ : (kBuf : Memref sig .tc .vmem S16x16x64x128 .f32).view.WordExact} :
    iprop(cellInv ER (plan X) κ (kCell c) ∗ cred (tallyAt (kCell c) () bigN) ∗ owes (c : Thread nD τ) (owedCopy c) W
        ∗ levAts labels height ∗ atPos ER (kCell c) 0 ∅ 0)
      ⊢ iprop(((∃ W', owes (c : Thread nD τ) (owedCopy c) W') ∗ atPos ER (kCell c) (0 + 1) ∅ 0 ∗ kPay X c -∗ wp frame (wpE (defs₀ (F := F)) Variants.none (c : Thread nD τ) none) Set.univ (k ⟨⟩) Q)
          -∗ wp frame (wpE (defs₀ (F := F)) Variants.none (c : Thread nD τ) none) Set.univ (.op (.waitDma2 kSem kSrc kBuf h₁ h₂) k) Q) := by
  iintro ⟨#I, C, HO, #Hl, A⟩ Hk
  iapply (Rounds.wp_wait_rest_token Variants.none ER (plan X) (c : Thread nD τ) none (κ := κ) (k' := bigN)
      (by unfold bigN; exact wpE_waitDma2_eq Variants.none (c : Thread nD τ) none Set.univ) (Set.mem_univ _) () (O := owedCopy c) (W := W) (R := 0) (m := 0) (T := ∅)
      ((Nat.zero_add _).trans (expect_k X c).symm)) $$ [C HO A]
  · isplitr; · iexact I
    isplitl [C]; · iexact C
    isplitl [HO]; · iexact HO
    isplitr; · iapply (mayWait_k c); iexact Hl
    iexact A
  iintro ⟨HO, A, -, P⟩
  ihave P := (Entails.of_eq (due_k X c)) $$ P
  iapply Hk
  isplitl [HO]; · iexists _; iexact HO
  isplitl [A]; · iexact A
  iexact P

/-- The wait for the values. -/
theorem wait_vals {h₁ : (vSrc : Memref sig .tc .hbm S16x16x64x128 .f32).view.WordExact} {h₂ : (vBuf : Memref sig .tc .vmem S16x16x64x128 .f32).view.WordExact} :
    iprop(cellInv ER (plan X) κ (vCell c) ∗ cred (tallyAt (vCell c) () bigN) ∗ owes (c : Thread nD τ) (owedCopy c) W
        ∗ levAts labels height ∗ atPos ER (vCell c) 0 ∅ 0)
      ⊢ iprop(((∃ W', owes (c : Thread nD τ) (owedCopy c) W') ∗ atPos ER (vCell c) (0 + 1) ∅ 0 ∗ vPay X c -∗ wp frame (wpE (defs₀ (F := F)) Variants.none (c : Thread nD τ) none) Set.univ (k ⟨⟩) Q)
          -∗ wp frame (wpE (defs₀ (F := F)) Variants.none (c : Thread nD τ) none) Set.univ (.op (.waitDma2 vSem vSrc vBuf h₁ h₂) k) Q) := by
  iintro ⟨#I, C, HO, #Hl, A⟩ Hk
  iapply (Rounds.wp_wait_rest_token Variants.none ER (plan X) (c : Thread nD τ) none (κ := κ) (k' := bigN)
      (by unfold bigN; exact wpE_waitDma2_eq Variants.none (c : Thread nD τ) none Set.univ) (Set.mem_univ _) () (O := owedCopy c) (W := W) (R := 0) (m := 0) (T := ∅)
      ((Nat.zero_add _).trans (expect_v X c).symm)) $$ [C HO A]
  · isplitr; · iexact I
    isplitl [C]; · iexact C
    isplitl [HO]; · iexact HO
    isplitr; · iapply (mayWait_v c); iexact Hl
    iexact A
  iintro ⟨HO, A, -, P⟩
  ihave P := (Entails.of_eq (due_v X c)) $$ P
  iapply Hk
  isplitl [HO]; · iexists _; iexact HO
  isplitl [A]; · iexact A
  iexact P

/-- The summary is sent to the device `n` that is the partner: nothing is owed any more, and the departure's credit is
    what is left. -/
theorem send_summary (n : Dev nD) (hn : n = partner c) {hsc : (inBox : Memref sig (Dev.tc n : Thread nD τ).2.kind .vmem S16x1056 .f32).view.ref.isScScratch = false}
    {h₁ : (outBox : Memref sig .tc .vmem S16x1056 .f32).view.WordExact} {h₂ : (inBox : Memref sig .tc .vmem S16x1056 .f32).view.WordExact}
    {h₃ : DmaTarget.Typed .vmem (SemLoc.dma recvSem : SemLoc sig) (.remote (Dev.tc n : Thread nD τ) (inBox : Memref sig .tc .vmem S16x1056 .f32) (.dma sendSem) hsc)}
    (f : Buf (Elt F) (inBox.view.loc (partner c : Thread nD τ))) :
    iprop(cellInv ER (plan X) κ (sendCell c) ∗ cellInv ER (plan X) κ' (recvCell (partner c)) ∗ holds outBox c (X.sent c) ∗ holds inBox (partner c) f
        ∗ owes (c : Thread nD τ) (owedCopy c) W ∗ dutyTok ER (sendCell c) 0 () ∗ reached ER (sendCell c) 0
        ∗ dutyTok ER (recvCell (partner c)) 0 () ∗ reached ER (recvCell (partner c)) 0)
      ⊢ iprop((cred (tallyAt (sendCell c) () boxN) ∗ owes (c : Thread nD τ) 0 W -∗ wp frame (wpE (defs₀ (F := F)) Variants.none (c : Thread nD τ) none) Set.univ (k ⟨⟩) Q)
          -∗ wp frame (wpE (defs₀ (F := F)) Variants.none (c : Thread nD τ) none) Set.univ (.op (.enqueueDma outBox (.remote (Dev.tc n : Thread nD τ) inBox (.dma sendSem) hsc) (.dma recvSem) h₁ h₂ h₃) k) Q) := by
  subst hn
  exact Rounds.wp_send_pointsTo Variants.none ER (plan X) (c : Thread nD τ) none (κ₁ := κ) (κ₂ := κ')
    (r₁ := 0) (r₂ := 0) (d₁ := ()) (d₂ := ()) (fd := f)
    (by rw [duties_send]; exact Finset.mem_singleton_self _) (by rw [duties_recv]; exact Finset.mem_singleton_self _)
    () () boxN (by unfold boxN; rfl) (amount_send X c ()) (amount_recv X (partner c) ()) 0 (by rw [zero_add]) (W := W)
    (by rw [payload_send]; exact BI.Entails.refl _)
    (by rw [payload_recv, recvPay, partner_partner, holds, View.write_whole_univ, View.read_whole])

/-- The wait for the departure, owing nothing. -/
theorem wait_departure {h₁ : (inBox : Memref sig .tc .vmem S16x1056 .f32).view.WordExact} {h₂ : (outBox : Memref sig .tc .vmem S16x1056 .f32).view.WordExact} :
    iprop(cellInv ER (plan X) κ (sendCell c) ∗ cred (tallyAt (sendCell c) () boxN) ∗ owes (c : Thread nD τ) 0 W ∗ atPos ER (sendCell c) 0 ∅ 0)
      ⊢ iprop(((∃ W', owes (c : Thread nD τ) 0 W') ∗ atPos ER (sendCell c) (0 + 1) ∅ 0 ∗ sendPay X c -∗ wp frame (wpE (defs₀ (F := F)) Variants.none (c : Thread nD τ) none) Set.univ (k ⟨⟩) Q)
          -∗ wp frame (wpE (defs₀ (F := F)) Variants.none (c : Thread nD τ) none) Set.univ (.op (.waitDma2 sendSem inBox outBox h₁ h₂) k) Q) := by
  iintro ⟨#I, C, HO, A⟩ Hk
  iapply (Rounds.wp_wait_rest_token Variants.none ER (plan X) (c : Thread nD τ) none (κ := κ) (k' := boxN)
      (by unfold boxN; exact wpE_waitDma2_eq Variants.none (c : Thread nD τ) none Set.univ) (Set.mem_univ _) () (O := 0) (W := W) (R := 0) (m := 0) (T := ∅)
      ((Nat.zero_add _).trans (expect_send X c).symm)) $$ [C HO A]
  · isplitr; · iexact I
    isplitl [C]; · iexact C
    isplitl [HO]; · iexact HO
    isplitr; · rw [MayWait_zero]; iempintro
    iexact A
  iintro ⟨HO, A, -, P⟩
  ihave P := (Entails.of_eq (due_send X c)) $$ P
  iapply Hk
  isplitl [HO]; · iexists _; iexact HO
  isplitl [A]; · iexact A
  iexact P

/-- The wait for the arrival of the partner's summary. -/
theorem wait_arrival {h₁ : (outBox : Memref sig .tc .vmem S16x1056 .f32).view.WordExact} {h₂ : (inBox : Memref sig .tc .vmem S16x1056 .f32).view.WordExact} :
    iprop(cellInv ER (plan X) κ (recvCell c) ∗ cred (tallyAt (recvCell c) () boxN) ∗ owes (c : Thread nD τ) 0 W ∗ atPos ER (recvCell c) 0 ∅ 0)
      ⊢ iprop(((∃ W', owes (c : Thread nD τ) 0 W') ∗ atPos ER (recvCell c) (0 + 1) ∅ 0 ∗ recvPay X c -∗ wp frame (wpE (defs₀ (F := F)) Variants.none (c : Thread nD τ) none) Set.univ (k ⟨⟩) Q)
          -∗ wp frame (wpE (defs₀ (F := F)) Variants.none (c : Thread nD τ) none) Set.univ (.op (.waitDma2 recvSem outBox inBox h₁ h₂) k) Q) := by
  iintro ⟨#I, C, HO, A⟩ Hk
  iapply (Rounds.wp_wait_rest_token Variants.none ER (plan X) (c : Thread nD τ) none (κ := κ) (k' := boxN)
      (by unfold boxN; exact wpE_waitDma2_eq Variants.none (c : Thread nD τ) none Set.univ) (Set.mem_univ _) () (O := 0) (W := W) (R := 0) (m := 0) (T := ∅)
      ((Nat.zero_add _).trans (expect_recv X c).symm)) $$ [C HO A]
  · isplitr; · iexact I
    isplitl [C]; · iexact C
    isplitl [HO]; · iexact HO
    isplitr; · rw [MayWait_zero]; iempintro
    iexact A
  iintro ⟨HO, A, -, P⟩
  ihave P := (Entails.of_eq (due_recv X c)) $$ P
  iapply Hk
  isplitl [HO]; · iexists _; iexact HO
  isplitl [A]; · iexact A
  iexact P

end Cert.KernelIdeal.Talk

end
-- ==== Proof.KernelIdeal.Values.lean ====
/-
  What one device computes, as closed functions of what it holds: the query, the block table and the lengths (each
  staged whole) and its own half of the transposed keys and values (in scratch). `summary` is what it sends, `answer`
  what it stores as its result. The names follow the mathematics: `bias` is the logarithm of how often a row of the
  table names a page, `best` the running maximum of the scores, `total` and `numer` the sums of the weights and of the
  weighted values.
-/
module

public import proofs.«01_k».proof.Proof.Gen.KernelIdeal.Skeleton
public import proofs.«01_k».proof.Proof.KernelIdeal.Protocol
public import Idealize.ShloMosaic.Lib.Pipeline.ReadBack
public import Idealize.ShloMosaic.Lib.Pipeline.Value
public import Idealize.ShloMosaic.Lib.ValueIdxCore

@[expose] public section

noncomputable section

namespace Cert.KernelIdeal.Talk

open Idealize.ShloMosaic Idealize.ShloMosaic.TcCoe
open Idealize.ShloMosaic.ValueIdx
open Cert.KernelIdeal.Gen

variable {F : FTy → Type} [FloatOps F]

/-! ## The staging buffers -/

abbrev qStg : Memref sig .tc .vmem S16x1x16x64 .f32 := Memref.whole cc0_stg0_0
abbrev btStg : Memref sig .tc .vmem S16x128 .i32 := Memref.whole cc0_stg1_0
abbrev lnStg : Memref sig .tc .vmem S16x1 .i32 := Memref.whole cc0_stg2_0
abbrev oStg : Memref sig .tc .vmem S16x1x16x64 .f32 := Memref.whole cc0_stg3_0

/-! ## One device's scores and sums -/

/-- The query as the body reads it. -/
def readQ (q : (cc0_stg0_0 : Ref sig .tc).ty.Contents (Elt F)) : Vec F S16x1x16x64 .f32 :=
  View.readAt (Elt F) qStg.view (Rect.unit ![0, 0, 0, 0] S16x1x16x64.size inb_S16x1x16x64_S16x1x16x64_0_0_0_0).toLoadRect q
/-- The block table as the body reads it. -/
def readTable (bt : (cc0_stg1_0 : Ref sig .tc).ty.Contents (Elt F)) : Vec F S16x128 .i32 :=
  View.readAt (Elt F) btStg.view (Rect.unit ![0, 0] S16x128.size inb_S16x128_S16x128_0_0).toLoadRect bt
/-- The lengths as the body reads them. -/
def readLens (ln : (cc0_stg2_0 : Ref sig .tc).ty.Contents (Elt F)) : Vec F S16x1 .i32 :=
  View.readAt (Elt F) lnStg.view (Rect.unit ![0, 0] S16x1.size inb_S16x1_S16x1_0_0).toLoadRect ln

/-- Place `t` of a page, for every head, component and page, read out of an array of the keys' (or values') shape. -/
theorem chunk_inb (t : Fin 16) : ∀ a, (![t.val, 0, 0, 0] : Fin 4 → Nat) a + S1x16x64x128.size a ≤ S16x16x64x128.size a := by
  revert t; decide
def chunk (M : Memref sig .tc .vmem S16x16x64x128 .f32) (f : M.view.ref.ty.Contents (Elt F)) (t : Fin 16) : Vec F S1x16x64x128 .f32 :=
  View.readAt (Elt F) M.view (Rect.unit (s := S16x16x64x128) ![t.val, 0, 0, 0] S1x16x64x128.size (chunk_inb t)).toLoadRect f

/-- The logarithm of how often each row of the table names each of the device's pages, among the slots in use. -/
def bias (d : Dev nD) (bt : (cc0_stg1_0 : Ref sig .tc).ty.Contents (Elt F)) (ln : (cc0_stg2_0 : Ref sig .tc).ty.Contents (Elt F)) : FVec F S256x128 .f32 :=
  k0_pay4 (iota .tc S16x128x128 32 [1] iota_S16x128x128_d1_w32) (k0_pay2 (readLens ln)) (k0_pay3 d (readTable bt))

/-- The query laid out with one block of columns per head. -/
def queries (q : (cc0_stg0_0 : Ref sig .tc).ty.Contents (Elt F)) : FVec F S256x1024 .f32 :=
  k0_pay8 (k0_pay5 (readQ q)) k0_pay6 (iota .tc S256x1024 32 [1] iota_S256x1024_d1_w32) 64#32 k0_pay7 0#32

/-- Scores of one place of every page. -/
def score (b : FVec F S256x128 .f32) (Q : FVec F S256x1024 .f32) (k : Vec F S1x16x64x128 .f32) : FVec F S256x128 .f32 :=
  k0_pay13 b Q k

/-- The running maximum after `n` places. -/
def best (s : Fin 16 → FVec F S256x128 .f32) : ℕ → FVec F S256x1 .f32
  | 0 => broadcast S256x1 (Scalar.ofBits .f32 0xF149F2CA#32)
  | n + 1 => maximumf (best s n)
      (shapeCast S256x1 (multiReduction .maximumf [1] S256 (s (Fin.ofNat 16 n)) 0xFF800000#32 reduces_S256x128_S256 (.inl rfl) rfl) shapeCasts_S256_S256x1)

/-- The weights of one place: the exponential of its scores less the maximum. -/
def weight (s : FVec F S256x128 .f32) (m : FVec F S256x1 .f32) : FVec F S256x128 .f32 :=
  exp (subf s (broadcastTo S256x128 m broadcasts_S256x1_S256x128))

/-- The sum of the weights after `n` places. -/
def total (p : Fin 16 → FVec F S256x128 .f32) : ℕ → FVec F S256x1 .f32
  | 0 => broadcast S256x1 (Scalar.ofBits .f32 0x00000000#32)
  | n + 1 => addf (total p n)
      (shapeCast S256x1 (multiReduction .add [1] S256 (p (Fin.ofNat 16 n)) 0x00000000#32 reduces_S256x128_S256 (.inl rfl) rfl) shapeCasts_S256_S256x1)

/-- The sum of the weighted values after `n` places. -/
def numer (p : Fin 16 → FVec F S256x128 .f32) (v : Fin 16 → Vec F S1x16x64x128 .f32) : ℕ → FVec F S256x1024 .f32
  | 0 => broadcast S256x1024 (Scalar.ofBits .f32 0x00000000#32)
  | n + 1 => addf (numer p v n)
      (matmul dot_S256x128_S1024x128_S256x1024_1_1_0_0_n_n none (p (Fin.ofNat 16 n))
        (shapeCast S1024x128 (shapeCast S16x64x128 (v (Fin.ofNat 16 n)) shapeCasts_S1x16x64x128_S16x64x128) shapeCasts_S16x64x128_S1024x128)
        (constant S256x1024 .f32 0x00000000#32))

/-- What a device holds of the arguments. -/
structure Held (F : FTy → Type) where
  q : (cc0_stg0_0 : Ref sig .tc).ty.Contents (Elt F)
  bt : (cc0_stg1_0 : Ref sig .tc).ty.Contents (Elt F)
  ln : (cc0_stg2_0 : Ref sig .tc).ty.Contents (Elt F)
  keys : (cc0_scratch0 : Ref sig .tc).ty.Contents (Elt F)
  vals : (cc0_scratch1 : Ref sig .tc).ty.Contents (Elt F)

variable (d : Dev nD) (H : Held F)

def scores (t : Fin 16) : FVec F S256x128 .f32 :=
  score (bias d H.bt H.ln) (queries H.q) (chunk (Memref.whole cc0_scratch0) H.keys t)
/-- The largest score of each head and row. -/
def top : FVec F S256x1 .f32 := best (scores d H) 16
def weights (t : Fin 16) : FVec F S256x128 .f32 := weight (scores d H t) (top d H)
/-- The sum of the weights of each head and row. -/
def sums : FVec F S256x1 .f32 := total (weights d H) 16
/-- The weighted values of each head and row. -/
def mass : FVec F S256x1024 .f32 := numer (weights d H) (chunk (Memref.whole cc0_scratch1) H.vals) 16

/-! ## The summary -/

/-- The columns of a summary: 64 numerators of each head, then one maximum of each head, then one sum of each head. Row
    `16 h + b` of the arrays above is head `h` of row `b`. -/
def packed (g : FVec F S256x1024 .f32) (m l : FVec F S256x1 .f32) : Vec F S16x1056 .f32 :=
  fun (i : S16x1056.Idx) =>
    if h : (i 1).val < 1024 then
      g (ix2 (⟨(i 1).val / 64 * 16 + (i 0).val, by have := (i 0).isLt; change (i 0).val < 16 at this; omega⟩ : Fin 256) (⟨(i 1).val, h⟩ : Fin 1024))
    else if h' : (i 1).val < 1040 then
      m (ix2 (⟨((i 1).val - 1024) * 16 + (i 0).val, by have := (i 0).isLt; change (i 0).val < 16 at this; omega⟩ : Fin 256) (0 : Fin 1))
    else
      l (ix2 (⟨((i 1).val - 1040) * 16 + (i 0).val, by
        have := (i 0).isLt; change (i 0).val < 16 at this
        have h1 := (i 1).isLt; change (i 1).val < 1056 at h1; omega⟩ : Fin 256) (0 : Fin 1))

/-- What the device sends. -/
def summary : Vec F S16x1056 .f32 := packed (mass d H) (top d H) (sums d H)

/-- A block of the numerators, as it is stored. -/
theorem numer_piece (g : FVec F S256x1024 .f32) (m l : FVec F S256x1 .f32) (h r o : ℕ) (hr : r = 16 * h) (ho : o = 64 * h)
    (sl : S256x1024.Slices ![r, o] S16x64) (inb : ∀ a, (![0, o] : Fin 2 → Nat) a + S16x64.size a ≤ S16x1056.size a) (x : S16x64.Idx) :
    extractStridedSlice S16x64 ![r, o] g sl x = packed g m l ((Rect.unit (s := S16x1056) ![0, o] S16x64.size inb).emb x) := by
  subst hr ho
  have h0 : (x 0).val < 16 := (x 0).isLt
  have h1 : (x 1).val < 64 := (x 1).isLt
  have hb : 64 * h + 64 ≤ 1024 := sl.2 1
  have e0 : (((Rect.unit (s := S16x1056) ![0, 64 * h] S16x64.size inb).emb x) 0).val = (x 0).val := by
    show 0 + 1 * (x 0).val = _; omega
  have e1 : (((Rect.unit (s := S16x1056) ![0, 64 * h] S16x64.size inb).emb x) 1).val = 64 * h + (x 1).val := by
    show 64 * h + 1 * (x 1).val = _; omega
  unfold packed
  rw [dif_pos (by rw [e1]; omega)]
  refine extractStridedSlice_apply _ g sl x _ fun a => ?_
  fin_cases a
  · show (((Rect.unit (s := S16x1056) ![0, 64 * h] S16x64.size inb).emb x) 1).val / 64 * 16 + (((Rect.unit (s := S16x1056) ![0, 64 * h] S16x64.size inb).emb x) 0).val = 16 * h + (x 0).val
    rw [e0, e1]; omega
  · show (((Rect.unit (s := S16x1056) ![0, 64 * h] S16x64.size inb).emb x) 1).val = 64 * h + (x 1).val
    exact e1

/-- A column of the maxima, as it is stored. -/
theorem top_piece (g : FVec F S256x1024 .f32) (m l : FVec F S256x1 .f32) (h r o : ℕ) (hh : h < 16) (hr : r = 16 * h) (ho : o = 1024 + h)
    (sl : S256x1.Slices ![r, 0] S16x1) (inb : ∀ a, (![0, o] : Fin 2 → Nat) a + S16x1.size a ≤ S16x1056.size a) (x : S16x1.Idx) :
    extractStridedSlice S16x1 ![r, 0] m sl x = packed g m l ((Rect.unit (s := S16x1056) ![0, o] S16x1.size inb).emb x) := by
  subst hr ho
  have h0 : (x 0).val < 16 := (x 0).isLt
  have h1 : (x 1).val < 1 := (x 1).isLt
  have e0 : (((Rect.unit (s := S16x1056) ![0, 1024 + h] S16x1.size inb).emb x) 0).val = (x 0).val := by
    show 0 + 1 * (x 0).val = _; omega
  have e1 : (((Rect.unit (s := S16x1056) ![0, 1024 + h] S16x1.size inb).emb x) 1).val = 1024 + h := by
    show 1024 + h + 1 * (x 1).val = _; omega
  unfold packed
  rw [dif_neg (by rw [e1]; omega), dif_pos (by rw [e1]; omega)]
  refine extractStridedSlice_apply _ m sl x _ fun a => ?_
  fin_cases a
  · show ((((Rect.unit (s := S16x1056) ![0, 1024 + h] S16x1.size inb).emb x) 1).val - 1024) * 16 + (((Rect.unit (s := S16x1056) ![0, 1024 + h] S16x1.size inb).emb x) 0).val = 16 * h + (x 0).val
    rw [e0, e1]; omega
  · show 0 = 0 + (x 1).val; omega

/-- A column of the sums, as it is stored. -/
theorem sum_piece (g : FVec F S256x1024 .f32) (m l : FVec F S256x1 .f32) (h r o : ℕ) (hr : r = 16 * h) (ho : o = 1040 + h)
    (sl : S256x1.Slices ![r, 0] S16x1) (inb : ∀ a, (![0, o] : Fin 2 → Nat) a + S16x1.size a ≤ S16x1056.size a) (x : S16x1.Idx) :
    extractStridedSlice S16x1 ![r, 0] l sl x = packed g m l ((Rect.unit (s := S16x1056) ![0, o] S16x1.size inb).emb x) := by
  subst hr ho
  have h0 : (x 0).val < 16 := (x 0).isLt
  have h1 : (x 1).val < 1 := (x 1).isLt
  have e0 : (((Rect.unit (s := S16x1056) ![0, 1040 + h] S16x1.size inb).emb x) 0).val = (x 0).val := by
    show 0 + 1 * (x 0).val = _; omega
  have e1 : (((Rect.unit (s := S16x1056) ![0, 1040 + h] S16x1.size inb).emb x) 1).val = 1040 + h := by
    show 1040 + h + 1 * (x 1).val = _; omega
  unfold packed
  rw [dif_neg (by rw [e1]; omega), dif_neg (by rw [e1]; omega)]
  refine extractStridedSlice_apply _ l sl x _ fun a => ?_
  fin_cases a
  · show ((((Rect.unit (s := S16x1056) ![0, 1040 + h] S16x1.size inb).emb x) 1).val - 1040) * 16 + (((Rect.unit (s := S16x1056) ![0, 1040 + h] S16x1.size inb).emb x) 0).val = 16 * h + (x 0).val
    rw [e0, e1]; omega
  · show 0 = 0 + (x 1).val; omega

/-! The same of a stored piece as the body names it, the head read off the column. -/

theorem sum_stored (g : FVec F S256x1024 .f32) (m l : FVec F S256x1 .f32) {r o : ℕ} (sl : S256x1.Slices ![r, 0] S16x1) (sc : S16x1.ShapeCasts S16x1)
    (inb : ∀ a, (![0, o] : Fin 2 → Nat) a + S16x1.size a ≤ S16x1056.size a) (hr : r = 16 * (o - 1040)) (ho : 1040 ≤ o) (x : S16x1.Idx) :
    shapeCast S16x1 (extractStridedSlice S16x1 ![r, 0] l sl) sc x = packed g m l ((Rect.unit (s := S16x1056) ![0, o] S16x1.size inb).emb x) := by
  rw [shapeCast_self]; exact sum_piece g m l (o - 1040) r o hr (by omega) sl inb x
theorem top_stored (g : FVec F S256x1024 .f32) (m l : FVec F S256x1 .f32) {r o : ℕ} (sl : S256x1.Slices ![r, 0] S16x1) (sc : S16x1.ShapeCasts S16x1)
    (inb : ∀ a, (![0, o] : Fin 2 → Nat) a + S16x1.size a ≤ S16x1056.size a) (hr : r = 16 * (o - 1024)) (ho : 1024 ≤ o) (ho' : o < 1040) (x : S16x1.Idx) :
    shapeCast S16x1 (extractStridedSlice S16x1 ![r, 0] m sl) sc x = packed g m l ((Rect.unit (s := S16x1056) ![0, o] S16x1.size inb).emb x) := by
  rw [shapeCast_self]; exact top_piece g m l (o - 1024) r o (by omega) hr (by omega) sl inb x
theorem numer_stored (g : FVec F S256x1024 .f32) (m l : FVec F S256x1 .f32) {r o : ℕ} (sl : S256x1024.Slices ![r, o] S16x64) (sc : S16x64.ShapeCasts S16x64)
    (inb : ∀ a, (![0, o] : Fin 2 → Nat) a + S16x64.size a ≤ S16x1056.size a) (hr : r = 16 * (o / 64)) (ho : 64 * (o / 64) = o) (x : S16x64.Idx) :
    shapeCast S16x64 (extractStridedSlice S16x64 ![r, o] g sl) sc x = packed g m l ((Rect.unit (s := S16x1056) ![0, o] S16x64.size inb).emb x) := by
  rw [shapeCast_self]; exact numer_piece g m l (o / 64) r o hr ho.symm sl inb x

/-! ## The result -/

/-- The combination of two summaries, the device's own and its partner's. -/
def combined (mine theirs : Vec F S16x1056 .f32) : Vec F S16x1x16x64 .f32 :=
  let maxes (f : Vec F S16x1056 .f32) : Vec F S16x16 .f32 :=
    View.readAt (Elt F) outBox.view (Rect.unit (s := S16x1056) ![0, 1024] S16x16.size inb_S16x1056_S16x16_0_1024).toLoadRect f
  let sumOf (f : Vec F S16x1056 .f32) : Vec F S16x16 .f32 :=
    View.readAt (Elt F) outBox.view (Rect.unit (s := S16x1056) ![0, 1040] S16x16.size inb_S16x1056_S16x16_0_1040).toLoadRect f
  let nums (f : Vec F S16x1056 .f32) : Vec F S16x1024 .f32 :=
    View.readAt (Elt F) outBox.view (Rect.unit (s := S16x1056) ![0, 0] S16x1024.size inb_S16x1056_S16x1024_0_0).toLoadRect f
  k0_pay1 (k0_pay121 (maxes mine) (maxes theirs) (nums mine) (nums theirs))
    (k0_pay122 (maxes mine) (sumOf mine) (maxes theirs) (sumOf theirs))

end Cert.KernelIdeal.Talk
-- ==== Proof.KernelIdeal.Body.lean ====
/-
  A device's run of the kernel: the two copies of its keys and values, the meeting with its partner, the summary of its
  own pages, the exchange of summaries and the combination. From the bookkeeping of the five cells, the staged arguments
  and the scratch buffers, the run ends with everything given back, the five counters at zero, and the result's buffer
  at the combination of the device's summary with its partner's.
-/
module

public import proofs.«01_k».proof.Proof.KernelIdeal.Steps
public import proofs.«01_k».proof.Proof.KernelIdeal.Values
public import Idealize.ShloMosaic.Lib.VecWindow
public import Idealize.ShloMosaic.Lib.Tactic

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]
local notation "𝕄" => MT nD τ sig Unit (Elt F) ℕ UU ℕ
variable (X : Traffic F)

/-- Stores that are blocks of one summary and cover the buffer leave that summary in it, whatever it held. -/
theorem box_holds (c : Dev nD) (f : Buf (Elt F) (outBox.view.loc (c : Thread nD τ))) (L : List (View.Piece (Elt F) S16x1056 .f32))
    (g : FVec F S256x1024 .f32) (m l : FVec F S256x1 .f32) :
    (outBox.view.loc (c : Thread nD τ) ↦[outBox.view.set]{fullShare} outBox.view.writes (Elt F) f L : sProp 𝕄)
      ⊢ iprop(⌜View.PiecesOf (packed g m l) L ∧ View.Piece.tiledBy L ![16, 1] = true⌝ -∗ holds outBox c (packed g m l)) := by
  iintro H %h
  have e : outBox.view.writes (Elt F) f L = packed g m l := by
    funext y
    have := View.read_writes_apply_of_pieces (v := outBox.view) (f := f) (packed g m l) L h.1.mem y (View.cover_of_tiledBy L _ h.2 y)
    exact this
  rw [e]
  iexact H

theorem read_oStg (g : oStg.view.ty.Contents (Elt F)) : oStg.view.read (Elt F) g = g := by
  funext y; rfl

/-- A store over the whole of the result's buffer leaves its value there. -/
theorem whole_store (c : Dev nD) (f : Buf (Elt F) (oStg.view.loc (c : Thread nD τ)))
    (w : (Rect.unit (s := S16x1x16x64) ![0, 0, 0, 0] ![16, 1, 16, 64] inb_S16x1x16x64_S16x1x16x64_0_0_0_0).shape.Idx → Elt F .f32) :
    oStg.view.writes (Elt F) f [⟨Rect.unit ![0, 0, 0, 0] ![16, 1, 16, 64] inb_S16x1x16x64_S16x1x16x64_0_0_0_0, w⟩] = w :=
  (read_oStg _).symm.trans (View.read_writes_full oStg.view f (off := ![0, 0, 0, 0]) inb_S16x1x16x64_S16x1x16x64_0_0_0_0 w [])

/-- What the run gives back: the counters at zero, the staged arguments, the result, the arrays copied from, and the
scratch buffers. -/
def returned (c : Dev nD) (q : qStg.view.ref.ty.Contents (Elt F)) (bt : btStg.view.ref.ty.Contents (Elt F))
    (ln : lnStg.view.ref.ty.Contents (Elt F)) : sProp 𝕄 :=
  iprop((semVal (barCell c) 0 ∗ semVal (kCell c) 0 ∗ semVal (vCell c) 0 ∗ semVal (sendCell c) 0 ∗ semVal (recvCell c) 0)
    ∗ (holds qStg c q ∗ holds btStg c bt ∗ holds lnStg c ln ∗ holds oStg c (combined (X.sent c) (X.sent (partner c))))
    ∗ (holds kSrc c (X.keys c) ∗ holds vSrc c (X.vals c))
    ∗ ((∃ f, holds kBuf c f) ∗ (∃ f, holds vBuf c f) ∗ (∃ f, holds outBox c f) ∗ (∃ f, holds inBox c f))
    ∗ ∃ W', owes (c : Thread nD τ) 0 W')

set_option maxHeartbeats 40000000 in
/-- One device's run. -/
theorem run (K : GSem nD τ sig → ℕ) (c : Dev nD) (W : Waits sig Unit) (q : qStg.view.ref.ty.Contents (Elt F)) (bt : btStg.view.ref.ty.Contents (Elt F))
   (ln : lnStg.view.ref.ty.Contents (Elt F))
    (hs : X.sent c = summary c ⟨q, bt, ln, X.keys c, X.vals c⟩) :
    iprop(opened X K c ∗ credits c ∗ levAts labels height
      ∗ (holds qStg c q ∗ holds btStg c bt ∗ holds lnStg c ln ∗ (∃ f, holds oStg c f))
      ∗ (holds kSrc c (X.keys c) ∗ holds vSrc c (X.vals c))
      ∗ ((∃ f, holds kBuf c f) ∗ (∃ f, holds vBuf c f) ∗ (∃ f, holds outBox c f) ∗ (∃ f, holds inBox c f))
      ∗ owes (c : Thread nD τ) (owedStart c) W)
      ⊢ wp frame (wpE (defs₀ (F := F)) Variants.none (c : Thread nD τ) none) Set.univ (bodyAt0 (F := F) t0_0) (fun _ => returned X c q bt ln) := by
  iintro ⟨Hop, Hcr, #Hlev, ⟨Hq, Hbt, Hln, %fo, Ho⟩, ⟨Hks, Hvs⟩, ⟨⟨%fk, Hkb⟩, ⟨%fv, Hvb⟩, ⟨%fs, Hsb⟩, ⟨%fr, Hrb⟩⟩, HO⟩
  unfold opened credits
  icases Hop with ⟨#Hinv, ⟨Hab, Hak, Hav, Has, Har⟩, ⟨#Hr1, #Hr2, #Hr3, #Hr4, #Hr5⟩, Hrt⟩
  unfold invs rights
  icases Hinv with ⟨#I1, #I2, #I3, #I4, #I5, #I6, #I7⟩
  icases Hrt with ⟨Tb, Tk, Tv, Ts, Tr⟩
  icases Hcr with ⟨Cb, Cr⟩
  unfold bodyAt0
  rw [cc0__body_eq_skeleton]
  unfold cc0__body_skel
  rw [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
  sl_exec
  iapply (copy_keys X (K (kCell c)) c fk) $$ [Hks Hkb Tk]
  · isplitr; · iexact I2
    isplitl [Hks]; · iexact Hks
    isplitl [Hkb]; · iexact Hkb
    isplitl [Tk]; · iexact Tk
    iexact Hr2
  iintro Ck
  sl_exec
  iapply (copy_vals X (K (vCell c)) c fv) $$ [Hvs Hvb Tv]
  · isplitr; · iexact I3
    isplitl [Hvs]; · iexact Hvs
    isplitl [Hvb]; · iexact Hvb
    isplitl [Tv]; · iexact Tv
    iexact Hr3
  iintro Cv
  sl_exec
  iapply (tell_partner X (K (barCell (partner c))) c W _ (dev1_eq c _) fr) $$ [HO Tb Hrb]
  · isplitr; · iexact I6
    isplitl [HO]; · iexact HO
    isplitl [Tb]; · iexact Tb
    isplitl [Hrb]; · iexact Hrb
    isplitr; · iexact Hr5
    iexact Hr1
  iintro HO
  sl_exec
  iapply (wait_partner X (K (barCell c)) c W) $$ [HO Cb Hab]
  · isplitr; · iexact I1
    isplitl [Cb]; · iexact Cb
    isplitl [HO]; · iexact HO
    isplitr; · iexact Hlev
    iexact Hab
  iintro ⟨⟨%W1, HO⟩, Hab, Hp⟩
  unfold barPay
  icases Hp with ⟨⟨%fn, Hpb⟩, #Hrp⟩
  sl_exec
  iapply (wait_keys X (K (kCell c)) c W1) $$ [HO Ck Hak]
  · isplitr; · iexact I2
    isplitl [Ck]; · iexact Ck
    isplitl [HO]; · iexact HO
    isplitr; · iexact Hlev
    iexact Hak
  iintro ⟨⟨%W2, HO⟩, Hak, Hp⟩
  unfold kPay
  icases Hp with ⟨Hkb, Hks⟩
  sl_exec
  iapply (wait_vals X (K (vCell c)) c W2) $$ [HO Cv Hav]
  · isplitr; · iexact I3
    isplitl [Cv]; · iexact Cv
    isplitl [HO]; · iexact HO
    isplitr; · iexact Hlev
    iexact Hav
  iintro ⟨⟨%W3, HO⟩, Hav, Hp⟩
  unfold vPay
  icases Hp with ⟨Hvb, Hvs⟩
  sl_exec
  ihave Hw := (box_holds c fs _ (run.sl.r_45 X c q bt ln) (run.sl.r_31 X c q bt ln) (run.sl.r_44 X c q bt ln)) $$ Hsb
  ihave Hsb := Hw $$ []
  · ipureintro
    refine ⟨?_, by sl_kernel_rfl⟩
    iterate 16
      refine ⟨fun x => ?_, fun x => ?_, fun x => ?_, ?_⟩
      · refine sum_stored (run.sl.r_45 X c q bt ln) (run.sl.r_31 X c q bt ln) (run.sl.r_44 X c q bt ln) ?_ ?_ ?_ ?_ ?_ x <;> decide
      · refine top_stored (run.sl.r_45 X c q bt ln) (run.sl.r_31 X c q bt ln) (run.sl.r_44 X c q bt ln) ?_ ?_ ?_ ?_ ?_ ?_ x <;> decide
      · refine numer_stored (run.sl.r_45 X c q bt ln) (run.sl.r_31 X c q bt ln) (run.sl.r_44 X c q bt ln) ?_ ?_ ?_ ?_ ?_ x <;> decide
    exact trivial
  have hbox : packed (run.sl.r_45 X c q bt ln) (run.sl.r_31 X c q bt ln) (run.sl.r_44 X c q bt ln) = X.sent c := by
    rw [hs]
    have hm : run.sl.r_31 X c q bt ln = top c ⟨q, bt, ln, X.keys c, X.vals c⟩ := rfl
    have hl : run.sl.r_44 X c q bt ln = sums c ⟨q, bt, ln, X.keys c, X.vals c⟩ := rfl
    have hg : run.sl.r_45 X c q bt ln = mass c ⟨q, bt, ln, X.keys c, X.vals c⟩ := rfl
    rw [hm, hl, hg]; rfl
  rw [hbox]
  iapply (send_summary X (K (sendCell c)) (K (recvCell (partner c))) c W3 _ (dev2_eq c _) fn) $$ [HO Hsb Hpb Ts Tr]
  · isplitr; · iexact I4
    isplitr; · iexact I7
    isplitl [Hsb]; · iexact Hsb
    isplitl [Hpb]; · iexact Hpb
    isplitl [HO]; · iexact HO
    isplitl [Ts]; · iexact Ts
    isplitr; · iexact Hr4
    isplitl [Tr]; · iexact Tr
    iexact Hrp
  iintro ⟨Cs, HO⟩
  iapply (wait_departure X (K (sendCell c)) c W3) $$ [HO Cs Has]
  · isplitr; · iexact I4
    isplitl [Cs]; · iexact Cs
    isplitl [HO]; · iexact HO
    iexact Has
  iintro ⟨⟨%W4, HO⟩, Has, Hsb⟩
  unfold sendPay
  iapply (wait_arrival X (K (recvCell c)) c W4) $$ [HO Cr Har]
  · isplitr; · iexact I5
    isplitl [Cr]; · iexact Cr
    isplitl [HO]; · iexact HO
    iexact Har
  iintro ⟨⟨%W5, HO⟩, Har, Hrb⟩
  unfold recvPay
  dsimp only [Prog.bind]
  sl_exec
  rw [wp_ret]
  rw [whole_store]
  imod (shut X (K (barCell c)) (barCell c)) $$ [Hab] with Z1
  · isplitr; · iexact I1
    iexact Hab
  imod (shut X (K (kCell c)) (kCell c)) $$ [Hak] with Z2
  · isplitr; · iexact I2
    iexact Hak
  imod (shut X (K (vCell c)) (vCell c)) $$ [Hav] with Z3
  · isplitr; · iexact I3
    iexact Hav
  imod (shut X (K (sendCell c)) (sendCell c)) $$ [Has] with Z4
  · isplitr; · iexact I4
    iexact Has
  imod (shut X (K (recvCell c)) (recvCell c)) $$ [Har] with Z5
  · isplitr; · iexact I5
    iexact Har
  have hc : k0_pay1 (run.sl.r_55 X c) (run.sl.r_56 X c) = combined (X.sent c) (X.sent (partner c)) := rfl
  rw [hc]
  imodintro
  unfold returned
  isplitl [Z1 Z2 Z3 Z4 Z5]
  · isplitl [Z1]; · iexact Z1
    isplitl [Z2]; · iexact Z2
    isplitl [Z3]; · iexact Z3
    isplitl [Z4]; · iexact Z4
    iexact Z5
  isplitl [Hq Hbt Hln Ho]
  · isplitl [Hq]; · iexact Hq
    isplitl [Hbt]; · iexact Hbt
    isplitl [Hln]; · iexact Hln
    iexact Ho
  isplitl [Hks Hvs]
  · isplitl [Hks]; · iexact Hks
    iexact Hvs
  isplitl [Hkb Hvb Hsb Hrb]
  · isplitl [Hkb]; · iexists _; iexact Hkb
    isplitl [Hvb]; · iexists _; iexact Hvb
    isplitl [Hsb]; · iexists _; iexact Hsb
    iexists _; iexact Hrb
  iexists _; iexact HO

end Cert.KernelIdeal.Talk
-- ==== Proof.KernelIdeal.Region.lean ====
/-
  The kernel's call as a region of @main: what its windows hold before and after, what its invariant is at its two
  ends, that a device's run keeps it, and the record of the region, entered owing the two things a device owes its
  partner from the launch on.
-/
module

public import proofs.«01_k».proof.Proof.KernelIdeal.Body

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)
open Cert.KernelIdeal.Gen

variable {F : FTy → Type} [FloatOps F]
local notation "𝕄" => MT nD τ sig Unit (Elt F) ℕ UU ℕ
variable (m : (ℓ : Loc nD τ sig) → Buf (Elt F) ℓ)

/-! ## What every device computes from -/

/-- What a device's run reads: its windows' blocks, and its transposed keys and values. -/
def inputs (c : Dev nD) : Held F := ⟨iblk m c 0 t0_0, iblk m c 1 t0_0, iblk m c 2 t0_0, V m c main_v1, V m c main_v2⟩

/-- The traffic from memory `m`. -/
def traffic : Traffic F where
  keys c := V m c main_v1
  vals c := V m c main_v2
  sent c := summary c (inputs m c)

/-- A device's result. -/
def result (c : Dev nD) : Vec F S16x1x16x64 .f32 := combined ((traffic m).sent c) ((traffic m).sent (partner c))

/-! ## The region's proof data -/

/-- A whole buffer, held by its view or by its location. -/
theorem holds_whole (b : Ref sig .tc) (c : Dev nD) (f : Buf (Elt F) ((c : Thread nD τ).loc b)) :
    holds (Memref.whole b) c f = ((c : Thread nD τ).loc b ↦{fullShare} f : sProp 𝕄) := by
  unfold holds
  simp only [View.set_whole, Memref.view_whole]

/-- A device's own four semaphores of the call. -/
abbrev osem : Fin 4 → SemLoc sig := ![.dma kSem, .dma vSem, .dma sendSem, .dma recvSem]
theorem osem_facts : Pipeline.OwnSemFacts spec0 osem := by decide
theorem ownSems_eq (c : Dev nD) : (Pipeline.ownSems0 osem c : sProp 𝕄)
    = iprop(semVal (kCell c) 0 ∗ semVal (vCell c) 0 ∗ semVal (sendCell c) 0 ∗ semVal (recvCell c) 0) := by
  unfold Pipeline.ownSems0
  exact bigSep_univ_eq_bigSepL [(0 : Fin 4), (1 : Fin 4), (2 : Fin 4), (3 : Fin 4)] (by decide) (by decide) _

/-- The scratch buffers, at contents not chosen. -/
def scratch (c : Dev nD) : sProp 𝕄 :=
  iprop((∃ f, holds kBuf c f) ∗ (∃ f, holds vBuf c f) ∗ (∃ f, holds outBox c f) ∗ (∃ f, holds inBox c f))
theorem scratch_eq (c : Dev nD) : (Pipeline.scopedRest spec0 c : sProp 𝕄) = scratch c := by
  rw [scopedRest0_eq]
  unfold scratch holds
  simp only [View.set_whole, Memref.view_whole]

/-- The arrays copied from, held by the buffer. -/
abbrev copied : Finset (DevRef τ sig) := {Proc.devRef .tc main_v1, Proc.devRef .tc main_v2}
theorem copied_eq (c : Dev nD) (W : Valuation τ sig (Elt F)) : (StableHlo.held (c : Thread nD τ) copied W : sProp 𝕄)
    = iprop(holds kSrc c (W (Proc.devRef .tc main_v1)) ∗ holds vSrc c (W (Proc.devRef .tc main_v2))) := by
  unfold StableHlo.held holds
  rw [bigSep_eq_bigSepL_of_eq [Proc.devRef .tc main_v1, Proc.devRef .tc main_v2] (by decide) (by decide)]
  simp only [View.set_whole, Memref.view_whole]
  rfl

/-- What enters the invariant beside the buffers, and what it leaves beside them. -/
def entering (c : Dev nD) : sProp 𝕄 := iprop((∃ K, opened (traffic m) K c) ∗ credits c ∗ levAts labels height)
def atStart (c : Dev nD) : sProp 𝕄 :=
  iprop(entering m c ∗ (holds kSrc c ((traffic m).keys c) ∗ holds vSrc c ((traffic m).vals c)) ∗ scratch c ∗ ∃ r, prngReg c r)
def atEnd (c : Dev nD) : sProp 𝕄 :=
  iprop((semVal (barCell c) 0 ∗ semVal (kCell c) 0 ∗ semVal (vCell c) 0 ∗ semVal (sendCell c) 0 ∗ semVal (recvCell c) 0)
    ∗ (holds kSrc c ((traffic m).keys c) ∗ holds vSrc c ((traffic m).vals c)) ∗ scratch c ∗ ∃ r, prngReg c r)

def dat (c : Dev nD) : Dat τ (Elt F) Unit ℕ UU ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => result m c
    | ⟨_ + 4, h⟩ => absurd h (Nat.not_lt.2 (Nat.le_add_left _ _))
  Φ t := match t with
    | ⟨0, _⟩ => atStart m c
    | ⟨_ + 1, _⟩ => atEnd m c
  q _ := fullShare
  owed t := match t with
    | ⟨0, _⟩ => owedStart c
    | ⟨_ + 1, _⟩ => 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dat m
  | ⟨_ + 1, h⟩ => absurd h (Nat.not_lt.2 (Nat.le_add_left _ _))

theorem owed_first (c : Dev nD) : (dat m c).owed t0_0.castSucc = owedStart c := rfl
theorem owed_last (c : Dev nD) : (dat m c).owed t0_0.succ = 0 := rfl

/-- Each input window's staging buffer holds its block when the body starts. -/
theorem before_0 (c : Dev nD) (t : Fin cfg0.N) (d) : (dat m c).before 0 t d = iblk m c 0 t :=
  ((dat m c).before_in_eq_fetched 0 rfl (fun _ => rfl) (fun _ _ _ => rfl) (fun _ => rfl) t d).trans rfl
theorem before_1 (c : Dev nD) (t : Fin cfg0.N) (d) : (dat m c).before 1 t d = iblk m c 1 t :=
  ((dat m c).before_in_eq_fetched 1 rfl (fun _ => rfl) (fun _ _ _ => rfl) (fun _ => rfl) t d).trans rfl
theorem before_2 (c : Dev nD) (t : Fin cfg0.N) (d) : (dat m c).before 2 t d = iblk m c 2 t :=
  ((dat m c).before_in_eq_fetched 2 rfl (fun _ => rfl) (fun _ _ _ => rfl) (fun _ => rfl) t d).trans rfl

theorem owesAt_of (c : Dev nD) (t : Fin (cfg0.N + 1)) (O : CellTallies nD τ sig Unit) (h : (dat m c).owed t = O) (W : Waits sig Unit) :
    (owes (c : Thread nD τ) O W : sProp 𝕄) ⊢ (dat m c).owesAt () t := by
  unfold Dat.owesAt Pipeline.owesWithin Dat.bound
  rw [h]
  iintro HO
  iexists W
  isplitr
  · ipureintro; exact fun _ _ => Or.inl trivial
  iexact HO
theorem of_owesAt (c : Dev nD) (t : Fin (cfg0.N + 1)) (O : CellTallies nD τ sig Unit) (h : (dat m c).owed t = O) :
    ((dat m c).owesAt () t : sProp 𝕄) ⊢ iprop(∃ W, owes (c : Thread nD τ) O W) := by
  unfold Dat.owesAt Pipeline.owesWithin
  rw [h]
  iintro ⟨%W, -, HO⟩
  iexists W
  iexact HO

set_option maxHeartbeats 4000000 in
/-- A device's run keeps the region's invariant. -/
theorem body (c : Dev nD) : BodyObligation (dat (F := F) m c) defs₀ Variants.none () Set.univ := fun t => by
  obtain rfl := fin_N0 t
  rw [bigSep_W0, bigSep_W0]
  rw [show (dat m c).Φ t0_0.castSucc = atStart m c from rfl, show (dat m c).Φ t0_0.succ = atEnd m c from rfl]
  simp only [owns_whole_eq]
  show iprop(atStart m c ∗ (dat m c).owesAt () t0_0.castSucc
      ∗ (∃ d, ∃ f : Buf (Elt F) ((c : Thread nD τ).loc cc0_stg0_0), ⌜f = (dat m c).before 0 t0_0 d⌝ ∗ (c : Thread nD τ).loc cc0_stg0_0 ↦{fullShare} f)
      ∗ (∃ d, ∃ f : Buf (Elt F) ((c : Thread nD τ).loc cc0_stg1_0), ⌜f = (dat m c).before 1 t0_0 d⌝ ∗ (c : Thread nD τ).loc cc0_stg1_0 ↦{fullShare} f)
      ∗ (∃ d, ∃ f : Buf (Elt F) ((c : Thread nD τ).loc cc0_stg2_0), ⌜f = (dat m c).before 2 t0_0 d⌝ ∗ (c : Thread nD τ).loc cc0_stg2_0 ↦{fullShare} f)
      ∗ (∃ d, ∃ f : Buf (Elt F) ((c : Thread nD τ).loc cc0_stg3_0), ⌜f = (dat m c).before 3 t0_0 d⌝ ∗ (c : Thread nD τ).loc cc0_stg3_0 ↦{fullShare} f))
    ⊢ wp frame (wpE defs₀ Variants.none (c : Thread nD τ) none) Set.univ (bodyAt0 t0_0) (fun _ => iprop(atEnd m c ∗ (dat m c).owesAt () t0_0.succ
      ∗ (∃ f : Buf (Elt F) ((c : Thread nD τ).loc cc0_stg0_0), ⌜f = iblk m c 0 t0_0⌝ ∗ (c : Thread nD τ).loc cc0_stg0_0 ↦{fullShare} f)
      ∗ (∃ f : Buf (Elt F) ((c : Thread nD τ).loc cc0_stg1_0), ⌜f = iblk m c 1 t0_0⌝ ∗ (c : Thread nD τ).loc cc0_stg1_0 ↦{fullShare} f)
      ∗ (∃ f : Buf (Elt F) ((c : Thread nD τ).loc cc0_stg2_0), ⌜f = iblk m c 2 t0_0⌝ ∗ (c : Thread nD τ).loc cc0_stg2_0 ↦{fullShare} f)
      ∗ (∃ f : Buf (Elt F) ((c : Thread nD τ).loc cc0_stg3_0), ⌜f = result m c⌝ ∗ (c : Thread nD τ).loc cc0_stg3_0 ↦{fullShare} f)))
  simp only [← holds_whole]
  iintro ⟨Hst, HO, ⟨%d0, %f0, %e0, Hq⟩, ⟨%d1, %f1, %e1, Hbt⟩, ⟨%d2, %f2, %e2, Hln⟩, ⟨%d3, %f3, -, Ho⟩⟩
  rw [before_0] at e0
  rw [before_1] at e1
  rw [before_2] at e2
  subst e0 e1 e2
  ihave HO := (of_owesAt m c _ (owedStart c) (owed_first m c)) $$ HO
  icases HO with ⟨%W, HO⟩
  unfold atStart entering
  icases Hst with ⟨⟨⟨%K, Hop⟩, Hcr, Hlev⟩, Hsrc, Hscr, Hreg⟩
  iapply (wp_wand_r _ _ _ (Q := fun _ => returned (traffic m) c (iblk m c 0 t0_0) (iblk m c 1 t0_0) (iblk m c 2 t0_0)))
  isplitr [Hreg]
  · iapply (run (traffic m) K c W (iblk m c 0 t0_0) (iblk m c 1 t0_0) (iblk m c 2 t0_0) rfl)
    unfold scratch
    isplitl [Hop]; · iexact Hop
    isplitl [Hcr]; · iexact Hcr
    isplitl [Hlev]; · iexact Hlev
    isplitl [Hq Hbt Hln Ho]
    · isplitl [Hq]; · iexact Hq
      isplitl [Hbt]; · iexact Hbt
      isplitl [Hln]; · iexact Hln
      iexists f3; iexact Ho
    isplitl [Hsrc]; · iexact Hsrc
    isplitl [Hscr]; · iexact Hscr
    iexact HO
  · iintro %_ Hr
    unfold returned atEnd scratch
    icases Hr with ⟨Hsem, ⟨Hq, Hbt, Hln, Ho⟩, Hsrc, Hscr, ⟨%W', HO⟩⟩
    isplitl [Hsem Hsrc Hscr Hreg]
    · isplitl [Hsem]; · iexact Hsem
      isplitl [Hsrc]; · iexact Hsrc
      isplitl [Hscr]; · iexact Hscr
      iexact Hreg
    isplitl [HO]
    · iapply (owesAt_of m c _ 0 (owed_last m c) W'); iexact HO
    isplitl [Hq]
    · iexists iblk m c 0 t0_0; isplitr; · ipureintro; rfl
      iexact Hq
    isplitl [Hbt]
    · iexists iblk m c 1 t0_0; isplitr; · ipureintro; rfl
      iexact Hbt
    isplitl [Hln]
    · iexists iblk m c 2 t0_0; isplitr; · ipureintro; rfl
      iexact Hln
    iexists result m c; isplitr; · ipureintro; rfl
    iexact Ho

/-- The layout of the call, as the region takes it. -/
theorem kit : Pipeline.PLaunchFacts (nD := nD) (τ := τ) (pcfgs (F := F)) 0 := launch0.toP

/-- Before the call: the bookkeeping of the launch, with four cells closed. -/
def dealt (c : Dev nD) : sProp 𝕄 := iprop((∃ K, ghost (traffic m) K c) ∗ credits c)

theorem opening (c : Dev nD) : iprop(dealt m c ∗ Pipeline.ownSems0 osem c ∗ levAts labels height) ⊢ (|={Set.univ}=> entering m c : sProp 𝕄) := by
  rw [ownSems_eq]
  unfold dealt entering
  iintro ⟨⟨⟨%K, Hg⟩, Hcr⟩, ⟨Sk, Sv, Ss, Sr⟩, #Hlev⟩
  unfold ghost
  icases Hg with ⟨#Hinv, Hab, ⟨Ok, Ov, Os, Or⟩, #Hrp, Hrt⟩
  ihave Hi := Hinv
  unfold invs
  icases Hi with ⟨-, #I2, #I3, #I4, #I5, -, -⟩
  imod (Rounds.cell_open ER (plan (traffic m)) (g := kCell c) (Set.mem_univ (K (kCell c)))) $$ [Ok Sk] with ⟨Hak, #R2⟩
  · isplitr; · iexact I2
    isplitl [Ok] <;> iassumption
  imod (Rounds.cell_open ER (plan (traffic m)) (g := vCell c) (Set.mem_univ (K (vCell c)))) $$ [Ov Sv] with ⟨Hav, #R3⟩
  · isplitr; · iexact I3
    isplitl [Ov] <;> iassumption
  imod (Rounds.cell_open ER (plan (traffic m)) (g := sendCell c) (Set.mem_univ (K (sendCell c)))) $$ [Os Ss] with ⟨Has, #R4⟩
  · isplitr; · iexact I4
    isplitl [Os] <;> iassumption
  imod (Rounds.cell_open ER (plan (traffic m)) (g := recvCell c) (Set.mem_univ (K (recvCell c)))) $$ [Or Sr] with ⟨Har, #R5⟩
  · isplitr; · iexact I5
    isplitl [Or] <;> iassumption
  imodintro
  isplitl [Hab Hak Hav Has Har Hrt]
  · iexists K
    unfold opened
    isplitr; · unfold invs; iexact Hinv
    isplitl [Hab Hak Hav Has Har]
    · isplitl [Hab]; · iexact Hab
      isplitl [Hak]; · iexact Hak
      isplitl [Hav]; · iexact Hav
      isplitl [Has] <;> iassumption
    isplitr
    · isplitr; · iexact Hrp
      isplitr; · iexact R2
      isplitr; · iexact R3
      isplitr; · iexact R4
      iexact R5
    iexact Hrt
  isplitl [Hcr]; · iexact Hcr
  iexact Hlev

/-! ## The record -/

/-- What the arrays hold at the call. -/
abbrev ahead (c : Dev nD) : Valuation τ sig (Elt F) := StableHlo.after hostOps0 (fun b => m (c, b))
/-- What the result array holds after it. -/
def written (c : Dev nD) : Buf (Elt F) ((c : Thread nD τ).loc main_v4) := (dat m c).arrAt 3 cfg0.N
/-- What the arrays hold after it. -/
def behind (c : Dev nD) : Valuation τ sig (Elt F) := Function.update (ahead m c) (Proc.devRef .tc main_v4) (written m c)

theorem behind_of_ne (c : Dev nD) (b : DevRef τ sig) (h : b ≠ Proc.devRef .tc main_v4) : behind m c b = ahead m c b :=
  Function.update_of_ne h _ _

/-- The buffers of @main that no window of the call is an array of. -/
abbrev bufs : Finset (DevRef τ sig) := (StableHlo.tcRefs τ sig).filter (fun b => ¬ b.isScoped)
abbrev others : Finset (DevRef τ sig) := bufs \ Pipeline.arrRefs spec0

theorem copied_sub : copied ⊆ others := by decide

theorem owedStart_pos {c : Dev nD} {g : GSem nD τ sig} {u : Unit} (h : 0 < owedStart c g u) :
    g = recvCell (partner c) ∨ g = barCell (partner c) := by
  unfold owedStart owedCopy at h
  rw [Pi.add_apply, Finsupp.add_apply, tallyAt_apply, tallyAt_apply] at h
  by_cases hr : g = recvCell (partner c)
  · exact .inl hr
  by_cases hb : g = barCell (partner c)
  · exact .inr hb
  rw [if_neg (fun e => hr e.1), if_neg (fun e => hb e.1)] at h
  exact absurd h (Nat.lt_irrefl 0)

/-- Whatever a device owes lies above the semaphores its windows are staged with. -/
theorem owed_above (c : Dev nD) (t : Fin (cfg0.N + 1)) (g : GSem nD τ sig) (u : Unit) (h : 0 < (dat (F := F) m c).owed t g u) :
    u ∈ labels g ∧ 0 < height g u := by
  rcases t with ⟨_ | t, ht⟩
  · rcases owedStart_pos (c := c) (g := g) (u := u) h with rfl | rfl
    · exact ⟨by rw [labels_tc]; exact Finset.mem_singleton_self _, by rw [show u = () from rfl, height_recv]; decide⟩
    · exact ⟨by rw [labels_tc]; exact Finset.mem_singleton_self _, by rw [show u = () from rfl, height_bar]; decide⟩
  · exact absurd h (Nat.lt_irrefl 0)

theorem staging_ne : ∀ (w : Fin cfg0.W) (s : Fin (cfg0.win w).nbuf), (SemLoc.dma ((cfg0.win w).sem s) : SemLoc sig) ≠ .dma recvSem := by
  decide

theorem behind_arrays (c : Dev nD) (w : Fin cfg0.W) :
    (dat m c).arrAt w cfg0.N = behind m c (Proc.devRef .tc (Pipeline.arrRef spec0 w)) := by
  fin_cases w
  · exact ((dat m c).arrAt_in 0 rfl _).trans (behind_of_ne m c (Proc.devRef .tc main_arg0) (by decide)).symm
  · exact ((dat m c).arrAt_in 1 rfl _).trans (behind_of_ne m c (Proc.devRef .tc main_arg3) (by decide)).symm
  · exact ((dat m c).arrAt_in 2 rfl _).trans (behind_of_ne m c (Proc.devRef .tc main_v3) (by decide)).symm
  · exact (Function.update_self (Proc.devRef .tc main_v4) (written m c) (ahead m c)).symm

theorem invariant_in (c : Dev nD) : iprop(Pipeline.scopedRest spec0 c ∗ (∃ r, prngReg c r)
    ∗ StableHlo.held (c : Thread nD τ) copied (ahead m c) ∗ entering m c) ⊢ (atStart m c : sProp 𝕄) := by
  rw [scratch_eq, copied_eq]
  unfold atStart
  iintro ⟨Hs, Hr, Hh, He⟩
  isplitl [He]; · iexact He
  isplitl [Hh]; · iexact Hh
  isplitl [Hs] <;> iassumption

theorem invariant_out (c : Dev nD) : (atEnd m c : sProp 𝕄) ⊢ iprop(Pipeline.scopedRest spec0 c ∗ (∃ r, prngReg c r)
    ∗ StableHlo.held (c : Thread nD τ) copied (behind m c) ∗ Pipeline.ownSems0 osem c ∗ semVal (barCell c) 0) := by
  rw [scratch_eq, copied_eq, ownSems_eq, behind_of_ne m c _ (by decide), behind_of_ne m c _ (by decide)]
  unfold atEnd
  iintro ⟨⟨Hb, Hk⟩, Hh, Hs, Hr⟩
  isplitl [Hs]; · iexact Hs
  isplitl [Hr]; · iexact Hr
  isplitl [Hh]; · iexact Hh
  isplitl [Hk] <;> iassumption

set_option backward.isDefEq.respectTransparency.types false in
/-- The call's region: entered owing what the launch made a device owe, left owing nothing and with the barrier at zero. -/
def region : Pipeline.RegionSeg (pcfgs (F := F)) adm (pdats m) () defs₀ Variants.none labels height 0 :=
  Pipeline.RegionSeg.ofTalk (pcfgs (F := F)) adm (pdats m) () defs₀ Variants.none labels height 0 osem osem_facts
    copied others copied_sub kit rfl (fun c => (body m c).loose)
    (fun _ => 0) owedStart (fun c => (zero_add (owedStart c)).symm) (fun _ => rfl) (fun _ => rfl)
    (fun c w => by fin_cases w <;> rfl)
    (ahead m) (behind m)
    (fun c b hb => behind_of_ne m c b (by rintro rfl; revert hb; decide))
    (dealt m) (fun c => semVal (barCell c) 0) (entering m) (fun c => semVal (barCell c) 0)
    (opening m) (invariant_in m) (invariant_out m)
    (fun c => by iintro H; imodintro; iexact H)
    (fun _ => 0)
    ⟨fun c _ _ => by rw [labels_tc]; exact Finset.mem_singleton_self _,
      fun c w s => by
        unfold height
        rw [if_neg (by exact nofun), if_neg (staging_ne w s)],
      fun c t g u h => owed_above m c t g u h⟩
    (fun _ => iprop(emp))
    (fun c w => rfl) (behind_arrays m)

end Cert.KernelIdeal.Talk

end
-- ==== Proof.KernelIdeal.Launch.lean ====
/-
  The whole program: the host lines that transpose the pages, then the call. At the launch every device's five cells are
  set up, the rights are dealt (a device's right to tell its partner, and to send into its landing buffer, are dealt to
  it, the others to their owner), and each device is credited with what its partner owes it.
-/
module

public import proofs.«01_k».proof.Proof.KernelIdeal.Region

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]
local notation "𝕄" => MT nD τ sig Unit (Elt F) ℕ UU ℕ
variable (m : (ℓ : Loc nD τ sig) → Buf (Elt F) ℓ) (ρ : Dev nD → PrngReg)

/-! ## The two segments -/

/-- What the memory holds at the launch, by device. -/
abbrev initial (c : Dev nD) : Valuation τ sig (Elt F) := fun b => m (c, b)

/-- What passes by the host lines. -/
def riding (c : Dev nD) : sProp 𝕄 :=
  iprop((dealt m c ∗ ∃ r, prngReg c r) ∗ ∃ W, owes (c : Thread nD τ) (owedStart c) W)

theorem hostOps_within : ∀ op ∈ (hostOps0 : List (HloOp τ sig (Elt F))), op.bufs ⊆ bufs := by
  intro op h
  simp only [hostOps0, List.mem_cons, List.not_mem_nil, or_false] at h
  rcases h with rfl | rfl | rfl
  · show ({Proc.devRef .tc main_arg1, Proc.devRef .tc main_v1} : Finset (DevRef τ sig)) ⊆ bufs; decide
  · show ({Proc.devRef .tc main_arg2, Proc.devRef .tc main_v2} : Finset (DevRef τ sig)) ⊆ bufs; decide
  · show ({Proc.devRef .tc main_arg4, Proc.devRef .tc main_v3} : Finset (DevRef τ sig)) ⊆ bufs; decide

def host : Pipeline.HostSeg (Name := ℕ) (U := UU) (pcfgs (F := F)) defs₀ Variants.none labels height :=
  Pipeline.HostSeg.ofOps _ _ _ _ _ bufs hostOps0 hostOps_within (List.forall_iff_forall_mem.mp hostOps0_fresh) (initial m) (riding m)

def segs : List (Pipeline.Seg (pcfgs (F := F)) adm (pdats m) () defs₀ Variants.none labels height) :=
  [.host (host m), .region (region m)]

theorem main_eq (c : Dev nD) : main (F := F) c = Pipeline.Seg.run (segs m) := main_segs _ _ _ _ _ _ _ _ rfl c

theorem arrays_sub : (Pipeline.arrRefs spec0 : Finset (DevRef τ sig)) ⊆ bufs := by decide

theorem region_pre (c : Dev nD) :
    iprop(StableHlo.held (c : Thread nD τ) bufs (ahead m c) ∗ riding m c) ⊢ (region m).pre c := by
  show _ ⊢ iprop(StableHlo.held (c.tc : Thread nD τ) (Pipeline.arrRefs (τ := τ) (pcfgs (F := F) 0).spec) (ahead m c) ∗ (∃ r, prngReg c r)
    ∗ (StableHlo.held (c.tc : Thread nD τ) others (ahead m c) ∗ emp) ∗ dealt m c ∗ ∃ Wd, owes (c : Thread nD τ) (0 + owedStart c) Wd)
  rw [StableHlo.held_sub_split (c.tc : Thread nD τ) arrays_sub (ahead m c), zero_add]
  unfold riding
  iintro ⟨⟨Ha, Ho⟩, ⟨Hd, Hp⟩, HO⟩
  isplitl [Ha]; · iexact Ha
  isplitl [Hp]; · iexact Hp
  isplitl [Ho]
  · isplitl [Ho]; · iexact Ho
    iempintro
  isplitl [Hd]; · iexact Hd
  iexact HO

/-- At the end: every array of @main, and the barrier at zero. -/
abbrev ended (c : Dev nD) : sProp 𝕄 := iprop(StableHlo.held (c : Thread nD τ) bufs (behind m c) ∗ semVal (barCell c) 0)

theorem region_post (c : Dev nD) :
    (region m).post c ⊢ iprop(ended m c ∗ ∃ W, owes (c : Thread nD τ) (0 : CellTallies nD τ sig Unit) W) := by
  show iprop(StableHlo.held (c.tc : Thread nD τ) (Pipeline.arrRefs (τ := τ) (pcfgs (F := F) 0).spec) (behind m c) ∗ (∃ r, prngReg c r)
    ∗ (StableHlo.held (c.tc : Thread nD τ) others (behind m c) ∗ emp) ∗ semVal (barCell c) 0
    ∗ ∃ Wd, owes (c : Thread nD τ) (0 : CellTallies nD τ sig Unit) Wd) ⊢ _
  unfold ended
  rw [StableHlo.held_sub_split (c.tc : Thread nD τ) arrays_sub (behind m c)]
  iintro ⟨Ha, -, ⟨Ho, -⟩, Hb, HO⟩
  isplitr [HO]
  · isplitl [Ha Ho]
    · isplitl [Ha]; · iexact Ha
      iexact Ho
    iexact Hb
  iexact HO

/-! ## The launch -/

theorem unscopedBufs_held (c : Dev nD) (W : Valuation τ sig (Elt F)) :
    (unscopedBufs c (fun b => W b) : sProp 𝕄) = StableHlo.held (c : Thread nD τ) bufs W := by
  unfold unscopedBufs StableHlo.held bufs StableHlo.tcRefs
  rw [Finset.filter_map, BI.bigSep_map]
  rfl

theorem unscopedSems0_eq (c : Dev nD) : (unscopedSems0 c : sProp 𝕄) = semVal (barCell c) 0 := by
  unfold unscopedSems0
  rw [show ((Finset.univ : Finset (SemLoc sig)).filter fun sm => ¬ sm.isScoped .tc) = {SemLoc.reg barrier0} by decide, bigSep_singleton]

theorem osem_inj : Function.Injective osem := by decide
theorem osem_ne_bar : ∀ k : Fin 4, osem k ≠ .reg barrier0 := by decide

def barEmb : Dev nD ↪ GSem nD τ sig := ⟨fun c => barCell c, fun _ _ h => congrArg (fun g : GSem nD τ sig => g.1.1) h⟩
def ownEmb : Dev nD × Fin 4 ↪ GSem nD τ sig :=
  ⟨fun ck => ((ck.1 : Thread nD τ), osem ck.2), fun _ _ h =>
    Prod.ext (congrArg (fun g : GSem nD τ sig => g.1.1) h) (osem_inj (congrArg Prod.snd h))⟩

/-- The barriers, set up at the launch; the call's own semaphores, closed until the call; the rights, five a device. -/
abbrev barCells : Finset (GSem nD τ sig) := Finset.univ.map barEmb
abbrev ownCells : Finset (GSem nD τ sig) := Finset.univ.map ownEmb
abbrev tsem : Fin 5 → SemLoc sig := ![.reg barrier0, .dma kSem, .dma vSem, .dma sendSem, .dma recvSem]
theorem tsem_inj : Function.Injective tsem := by decide
def allToks : Finset (GSem nD τ sig × ℕ × Unit) :=
  Finset.univ.map ⟨fun ck : Dev nD × Fin 5 => (((ck.1 : Thread nD τ), tsem ck.2), 0, ()), fun _ _ h =>
    Prod.ext (congrArg (fun t : GSem nD τ sig × ℕ × Unit => t.1.1.1) h)
      (tsem_inj (congrArg (fun t : GSem nD τ sig × ℕ × Unit => t.1.2) h))⟩

theorem disjoint_cells : Disjoint (barCells : Finset (GSem nD τ sig)) ownCells := by
  rw [Finset.disjoint_left]
  rintro g h₁ h₂
  obtain ⟨c, -, rfl⟩ := Finset.mem_map.mp h₁
  obtain ⟨ck, -, h⟩ := Finset.mem_map.mp h₂
  exact osem_ne_bar ck.2 (congrArg Prod.snd h)

theorem bar_mem (c : Dev nD) : barCell c ∈ (barCells ∪ ownCells : Finset (GSem nD τ sig)) :=
  Finset.mem_union_left _ (Finset.mem_map_of_mem barEmb (Finset.mem_univ c))
theorem own_mem (c : Dev nD) (k : Fin 4) : ((c : Thread nD τ), osem k) ∈ (barCells ∪ ownCells : Finset (GSem nD τ sig)) :=
  Finset.mem_union_right _ (Finset.mem_map_of_mem ownEmb (Finset.mem_univ (c, k)))

/-- The resources of the launch: the pipeline library's for its staging cells, and the protocol's. -/
def u₀ : UU :=
  (initOf (Pipeline.cells (Pipeline.pin (pcfgs (F := F)) adm) cellOf_inj) (Pipeline.launchToks (Pipeline.pin (pcfgs (F := F)) adm) cellOf_inj),
    launchOf barCells ownCells allToks)

/-- A resource given to one device. -/
def givenTo (c₀ : Dev nD) (P : sProp 𝕄) (c : Dev nD) : sProp 𝕄 := if c = c₀ then P else iprop(emp)
theorem bigSep_givenTo (c₀ : Dev nD) (P : sProp 𝕄) : bigSep Finset.univ (givenTo c₀ P) = P := by
  rw [bigSep_univ_at _ c₀, bigSep_congr (s := Finset.univ.erase c₀) (Ψ := fun _ => (BI.emp : sProp 𝕄))
      fun c hc => by unfold givenTo; rw [if_neg (Finset.ne_of_mem_erase hc)]; rfl, BI.bigSep_emp_const]
  unfold givenTo; rw [if_pos rfl]
  exact BI.equiv_iff.mp sep_emp

/-- The protocol's resources wait on device 0 until they are dealt. -/
def G : Dev nD → sProp 𝕄 := givenTo 0 (BI.own (ER (launchOf barCells ownCells allToks)))

/-- What every device may look up. -/
def records (κ : GSem nD τ sig → ℕ) : sProp 𝕄 :=
  iprop((bigSep (barCells ∪ ownCells) fun g => cellInv ER (plan (traffic m)) (κ g) g) ∗ bigSep barCells fun g => reached ER g 0)
instance records_persistent (κ : GSem nD τ sig → ℕ) : BI.Persistent (records m κ) := by unfold records; infer_instance

theorem inv_at (κ : GSem nD τ sig → ℕ) {g : GSem nD τ sig} (hg : g ∈ (barCells ∪ ownCells : Finset (GSem nD τ sig))) :
    (bigSep (barCells ∪ ownCells) fun g => (cellInv ER (plan (traffic m)) (κ g) g : sProp 𝕄)) ⊢ cellInv ER (plan (traffic m)) (κ g) g :=
  bigSep_elim hg
theorem reached_at (c : Dev nD) : (bigSep barCells fun g => (reached ER g 0 : sProp 𝕄)) ⊢ reached ER (barCell c) 0 :=
  bigSep_elim (Finset.mem_map_of_mem barEmb (Finset.mem_univ c))

/-- What a device alone holds. -/
def share (c : Dev nD) : sProp 𝕄 :=
  iprop(atPos ER (barCell c) 0 ∅ 0 ∗ (openTok ER (kCell c) ∗ openTok ER (vCell c) ∗ openTok ER (sendCell c) ∗ openTok ER (recvCell c)) ∗ rights c)

theorem ghost_intro (κ : GSem nD τ sig → ℕ) (c : Dev nD) : iprop(records m κ ∗ share c) ⊢ iprop(∃ K, ghost (traffic m) K c) := by
  unfold records share ghost invs
  iintro ⟨⟨#HI, #HR⟩, Hat, Hop, Hrt⟩
  iexists κ
  isplitr
  · isplitr; · iapply (inv_at m κ (bar_mem c)); iexact HI
    isplitr; · iapply (inv_at m κ (own_mem c 0)); iexact HI
    isplitr; · iapply (inv_at m κ (own_mem c 1)); iexact HI
    isplitr; · iapply (inv_at m κ (own_mem c 2)); iexact HI
    isplitr; · iapply (inv_at m κ (own_mem c 3)); iexact HI
    isplitr; · iapply (inv_at m κ (bar_mem (partner c))); iexact HI
    iapply (inv_at m κ (own_mem (partner c) 3)); iexact HI
  isplitl [Hat]; · iexact Hat
  isplitl [Hop]; · iexact Hop
  isplitr; · iapply (reached_at (F := F) (partner c)); iexact HR
  iexact Hrt

/-- The rights to a device's own five cells. -/
def toks (c : Dev nD) : sProp 𝕄 :=
  iprop(dutyTok ER (barCell c) 0 () ∗ dutyTok ER (kCell c) 0 () ∗ dutyTok ER (vCell c) 0 () ∗ dutyTok ER (sendCell c) 0 () ∗ dutyTok ER (recvCell c) 0 ())

theorem toks_eq : bigSep allToks (fun x => (dutyTok ER x.1 x.2.1 x.2.2 : sProp 𝕄)) = bigSep Finset.univ fun c : Dev nD => toks c := by
  unfold allToks; rw [bigSep_map, bigSep_univ_prod]
  refine bigSep_congr fun c _ => ?_
  exact bigSep_univ_eq_bigSepL [(0 : Fin 5), (1 : Fin 5), (2 : Fin 5), (3 : Fin 5), (4 : Fin 5)] (by decide) (by decide) _

/-- Barrier and arrival rights change hands between partners. -/
theorem toks_around : (bigSep Finset.univ fun c : Dev nD => (toks c : sProp 𝕄)) ⊢ bigSep Finset.univ fun c : Dev nD => rights c := by
  unfold toks rights
  rw [bigSep_sep', bigSep_sep', bigSep_sep', bigSep_sep', bigSep_sep', bigSep_sep', bigSep_sep', bigSep_sep',
    bigSep_univ_equiv swap (fun c : Dev nD => (dutyTok ER (barCell c) 0 () : sProp 𝕄)),
    bigSep_univ_equiv swap (fun c : Dev nD => (dutyTok ER (recvCell c) 0 () : sProp 𝕄))]
  exact BI.Entails.refl _

/-! ### The credit -/

theorem eq_partner_of {d c : Dev nD} {s s' : SemLoc sig}
    (h : (((c : Thread nD τ), s) : GSem nD τ sig) = ((partner d : Thread nD τ), s')) : d = partner c := by
  have e : c = partner d := congrArg (fun g : GSem nD τ sig => g.1.1) h
  rw [e, partner_partner]

theorem owed_bar (d c : Dev nD) : owedStart d (barCell c) () = if d = partner c then 1 else 0 := by
  unfold owedStart owedCopy
  rw [Pi.add_apply, Finsupp.add_apply, tallyAt_ne_cell (fun h => recv_ne_bar (congrArg Prod.snd h).symm), tallyAt_apply, Finsupp.zero_apply, Nat.zero_add]
  by_cases h : d = partner c
  · subst h; rw [partner_partner, if_pos ⟨rfl, rfl⟩, if_pos rfl]
  · rw [if_neg (fun e => h (eq_partner_of e.1)), if_neg h]
theorem owed_recv (d c : Dev nD) : owedStart d (recvCell c) () = if d = partner c then boxN else 0 := by
  unfold owedStart owedCopy
  rw [Pi.add_apply, Finsupp.add_apply, tallyAt_apply, tallyAt_ne_cell (fun h => recv_ne_bar (congrArg Prod.snd h)), Finsupp.zero_apply, Nat.add_zero]
  by_cases h : d = partner c
  · subst h; rw [partner_partner, if_pos ⟨rfl, rfl⟩, if_pos rfl]
  · rw [if_neg (fun e => h (eq_partner_of e.1)), if_neg h]

theorem launch_bar (c : Dev nD) :
    tallyOn (barCell c) (launchCredit (Pipeline.owing owedStart) 0 (barCell c)) = (tallyAt (barCell c) () 1 : CellTallies nD τ sig Unit) := by
  unfold tallyAt; refine congrArg _ (Finsupp.ext fun u => ?_); cases u
  rw [Pipeline.launchCredit_owing, Finsupp.single_eq_same, Finset.sum_congr rfl fun d _ => owed_bar d c,
    Finset.sum_ite_eq' Finset.univ (partner c) fun _ => 1, if_pos (Finset.mem_univ _)]
theorem launch_recv (c : Dev nD) :
    tallyOn (recvCell c) (launchCredit (Pipeline.owing owedStart) 0 (recvCell c)) = (tallyAt (recvCell c) () boxN : CellTallies nD τ sig Unit) := by
  unfold tallyAt; refine congrArg _ (Finsupp.ext fun u => ?_); cases u
  rw [Pipeline.launchCredit_owing, Finsupp.single_eq_same, Finset.sum_congr rfl fun d _ => owed_recv d c,
    Finset.sum_ite_eq' Finset.univ (partner c) fun _ => boxN, if_pos (Finset.mem_univ _)]

theorem credited (c : Dev nD) : (Pipeline.launchCred owedStart c : sProp 𝕄) ⊢ credits c := by
  unfold Pipeline.launchCred credits
  rw [bigSep_univ_at _ (SemLoc.reg barrier0), launch_bar]
  refine sep_mono_right ?_
  rw [← launch_recv]
  exact bigSep_elim (Finset.mem_erase.mpr ⟨recv_ne_bar, Finset.mem_univ _⟩)

/-! ### Dealing -/

/-- Two things from every device are the one from every device beside the other from every device. -/
theorem apart {Φ Ψ : Dev nD → sProp 𝕄} : bigSep Finset.univ (fun c => iprop(Φ c ∗ Ψ c)) ⊢ iprop(bigSep Finset.univ Φ ∗ bigSep Finset.univ Ψ) := by
  rw [bigSep_sep']
theorem together {Φ Ψ : Dev nD → sProp 𝕄} : iprop(bigSep Finset.univ Φ ∗ bigSep Finset.univ Ψ) ⊢ bigSep Finset.univ (fun c => iprop(Φ c ∗ Ψ c)) := by
  rw [bigSep_sep']

abbrev begun (c : Dev nD) : sProp 𝕄 := iprop(StableHlo.held (c : Thread nD τ) bufs (initial m c) ∗ riding m c)

/-- What a device brings to the launch, beside the bookkeeping. -/
def brought (c : Dev nD) : sProp 𝕄 :=
  iprop(StableHlo.held (c : Thread nD τ) bufs (initial m c) ∗ credits c ∗ owes (c : Thread nD τ) (owedStart c) ∅ ∗ ∃ r, prngReg c r)

theorem begun_intro (κ : GSem nD τ sig → ℕ) (c : Dev nD) : iprop(records m κ ∗ (share c ∗ brought m c)) ⊢ begun m c := by
  unfold brought begun riding dealt
  iintro ⟨#HR, Hl, Hh, Hc, HO, Hp⟩
  isplitl [Hh]; · iexact Hh
  isplitr [HO]
  · isplitr [Hp]
    · isplitl [Hl]
      · iapply (ghost_intro m κ c)
        isplitr; · iexact HR
        iexact Hl
      iexact Hc
    iexact Hp
  · iexists ∅; iexact HO

/-- What the launch gives a device, by use. -/
theorem sorted (c : Dev nD) :
    iprop(unscopedBufs c (fun b => m ((c : Thread nD τ).loc b)) ∗ unscopedSems0 c
        ∗ owes (c : Thread nD τ) (owedStart c) ∅ ∗ Pipeline.launchCred owedStart c ∗ prngReg c (ρ c) ∗ G c)
      ⊢ (iprop(brought m c ∗ (semVal (barCell c) 0 ∗ G c)) : sProp 𝕄) := by
  rw [show unscopedBufs c (fun b => m ((c : Thread nD τ).loc b)) = StableHlo.held (c : Thread nD τ) bufs (initial m c) from unscopedBufs_held c (initial m c),
    unscopedSems0_eq]
  unfold brought
  iintro ⟨Hh, Hus, HO, Hcr, Hp, HG⟩
  ihave Hc := (credited (F := F) c) $$ Hcr
  isplitl [Hh Hc HO Hp]
  · isplitl [Hh]; · iexact Hh
    isplitl [Hc]; · iexact Hc
    isplitl [HO]; · iexact HO
    iexists (ρ c); iexact Hp
  isplitl [Hus] <;> iassumption

theorem counters_bars : bigSep Finset.univ (fun c : Dev nD => (semVal (barCell c) 0 : sProp 𝕄)) ⊢ bigSep barCells (fun g => (semVal g 0 : sProp 𝕄)) :=
  Entails.of_eq (bigSep_map (s := Finset.univ) barEmb (Φ := fun g : GSem nD τ sig => (semVal g 0 : sProp 𝕄))).symm
theorem positions_bars : bigSep barCells (fun g => (atPos ER g 0 ∅ 0 : sProp 𝕄)) ⊢ bigSep Finset.univ (fun c : Dev nD => (atPos ER (barCell c) 0 ∅ 0 : sProp 𝕄)) :=
  Entails.of_eq (bigSep_map (s := Finset.univ) barEmb (Φ := fun g : GSem nD τ sig => (atPos ER g 0 ∅ 0 : sProp 𝕄)))
theorem closed_own : bigSep ownCells (fun g => (openTok ER g : sProp 𝕄))
    ⊢ bigSep Finset.univ (fun c : Dev nD => iprop(openTok ER (kCell c) ∗ openTok ER (vCell c) ∗ openTok ER (sendCell c) ∗ openTok ER (recvCell c))) :=
  Entails.of_eq (by
    rw [bigSep_map, bigSep_univ_prod]
    refine bigSep_congr fun c _ => ?_
    exact bigSep_univ_eq_bigSepL [(0 : Fin 4), (1 : Fin 4), (2 : Fin 4), (3 : Fin 4)] (by decide) (by decide) _)

theorem init :
    iprop((bigSep Finset.univ fun c : Dev nD => iprop(unscopedBufs c (fun b => m ((c : Thread nD τ).loc b)) ∗ unscopedSems0 c
          ∗ owes (c : Thread nD τ) (owedStart c) ∅ ∗ Pipeline.launchCred owedStart c ∗ prngReg c (ρ c) ∗ G c)) ∗ levAts labels height)
      ⊢ (|={Set.univ}=> bigSep Finset.univ (begun m) : sProp 𝕄) := by
  iintro ⟨H, -⟩
  ihave H' := (show (bigSep Finset.univ fun c : Dev nD => iprop(unscopedBufs c (fun b => m ((c : Thread nD τ).loc b)) ∗ unscopedSems0 c
          ∗ owes (c : Thread nD τ) (owedStart c) ∅ ∗ Pipeline.launchCred owedStart c ∗ prngReg c (ρ c) ∗ G c))
      ⊢ (bigSep Finset.univ fun c : Dev nD => iprop(brought m c ∗ (semVal (barCell c) 0 ∗ G c)) : sProp 𝕄) from bigSep_mono fun c _ => sorted m ρ c) $$ H
  ihave H2 := apart $$ H'; icases H2 with ⟨HB, H3⟩
  ihave H4 := apart $$ H3; icases H4 with ⟨Hv, HG⟩
  ihave Hu := (show bigSep Finset.univ (G (F := F)) ⊢ BI.own (ER (launchOf barCells ownCells allToks)) from
    Entails.of_eq (bigSep_givenTo (F := F) 0 (BI.own (ER (launchOf barCells ownCells allToks))))) $$ HG
  imod (Rounds.fund_launch ER (plan (traffic m)) disjoint_cells (fun g _ h => h) allToks) $$ [Hv Hu] with ⟨%κ, -, #Hinv, #Hr, Hat, Hopen, Htok⟩
  · isplitl [Hv]
    · iapply (counters_bars (F := F)) $$ Hv
    · iexact Hu
  imodintro
  iapply (bigSep_with_persistent (R := records m κ) (Φ := fun c => iprop(share c ∗ brought m c)) fun c _ => begun_intro m κ c)
  isplitr
  · unfold records
    isplitr; · iexact Hinv
    iexact Hr
  iapply together
  isplitr [HB]
  · unfold share
    iapply together; isplitl [Hat]; · iapply (positions_bars (F := F)) $$ Hat
    iapply together; isplitl [Hopen]; · iapply (closed_own (F := F)) $$ Hopen
    iapply (toks_around (F := F))
    iapply (Entails.of_eq (toks_eq (F := F))) $$ Htok
  · iexact HB

/-! ## The run -/

theorem only_barrier : ∀ sm : SemLoc sig, sm.isScoped .tc = false → sm = .reg barrier0 := by decide

/-- The final memory, as far as @main's results and arguments go. -/
def agrees (c : Dev nD) (s : MemSt nD τ sig (Elt F)) : Prop :=
  s.mem ((c : Thread nD τ).loc main_arg0) = behind m c main_arg0 ∧ s.mem ((c : Thread nD τ).loc main_arg1) = behind m c main_arg1
    ∧ s.mem ((c : Thread nD τ).loc main_arg2) = behind m c main_arg2 ∧ s.mem ((c : Thread nD τ).loc main_arg3) = behind m c main_arg3
    ∧ s.mem ((c : Thread nD τ).loc main_arg4) = behind m c main_arg4 ∧ s.mem ((c : Thread nD τ).loc main_v4) = behind m c main_v4

theorem bufs_eq (c : Dev nD) (W : Valuation τ sig (Elt F)) : (StableHlo.held (c : Thread nD τ) bufs W : sProp 𝕄)
    = iprop(((c : Thread nD τ).loc main_arg0 ↦{fullShare} W main_arg0) ∗ ((c : Thread nD τ).loc main_arg1 ↦{fullShare} W main_arg1)
      ∗ ((c : Thread nD τ).loc main_arg2 ↦{fullShare} W main_arg2) ∗ ((c : Thread nD τ).loc main_arg3 ↦{fullShare} W main_arg3)
      ∗ ((c : Thread nD τ).loc main_arg4 ↦{fullShare} W main_arg4) ∗ ((c : Thread nD τ).loc main_v4 ↦{fullShare} W main_v4)
      ∗ ((c : Thread nD τ).loc main_v1 ↦{fullShare} W main_v1) ∗ ((c : Thread nD τ).loc main_v2 ↦{fullShare} W main_v2)
      ∗ ((c : Thread nD τ).loc main_v3 ↦{fullShare} W main_v3)) := by
  unfold StableHlo.held
  rw [bigSep_eq_bigSepL_of_eq [Proc.devRef .tc main_arg0, Proc.devRef .tc main_arg1, Proc.devRef .tc main_arg2, Proc.devRef .tc main_arg3,
    Proc.devRef .tc main_arg4, Proc.devRef .tc main_v4, Proc.devRef .tc main_v1, Proc.devRef .tc main_v2, Proc.devRef .tc main_v3] (by decide) (by decide)]
  rfl

theorem final (c : Dev nD) (s' : Phys nD τ sig (Elt F)) :
    iprop(ended m c ∗ SI s') ⊢ (|={Set.univ}=> iprop(⌜agrees m c s'.mem ∧ s'.mem.sem (barCell c) = 0⌝ ∗ SI s') : sProp 𝕄) := by
  unfold ended
  rw [bufs_eq]
  iintro ⟨⟨⟨H0, H1, H2, H3, H4, H5, -⟩, Hb⟩, HSI⟩
  icombine HSI H0 gives %h0
  icombine HSI H1 gives %h1
  icombine HSI H2 gives %h2
  icombine HSI H3 gives %h3
  icombine HSI H4 gives %h4
  icombine HSI H5 gives %h5
  icombine HSI Hb gives %hb
  imodintro
  isplitr
  · ipureintro
    exact ⟨⟨Buf.eq_of_forall_mem_univ h0, Buf.eq_of_forall_mem_univ h1, Buf.eq_of_forall_mem_univ h2, Buf.eq_of_forall_mem_univ h3,
      Buf.eq_of_forall_mem_univ h4, Buf.eq_of_forall_mem_univ h5⟩, by simpa using hb⟩
  iexact HSI

/-- After the run every argument is as it was: the host lines write none of them, and the call writes only its result. -/
theorem args_kept (c : Dev nD) (s : MemSt nD τ sig (Elt F)) (h : agrees m c s) :
    (s.mem ((c : Thread nD τ).loc main_arg0) = m ((c : Thread nD τ).loc main_arg0) ∧ s.mem ((c : Thread nD τ).loc main_arg1) = m ((c : Thread nD τ).loc main_arg1)
      ∧ s.mem ((c : Thread nD τ).loc main_arg2) = m ((c : Thread nD τ).loc main_arg2) ∧ s.mem ((c : Thread nD τ).loc main_arg3) = m ((c : Thread nD τ).loc main_arg3)
      ∧ s.mem ((c : Thread nD τ).loc main_arg4) = m ((c : Thread nD τ).loc main_arg4)) := by
  obtain ⟨h0, h1, h2, h3, h4, -⟩ := h
  exact ⟨h0.trans ((behind_of_ne m c (Proc.devRef .tc main_arg0) (by decide)).trans (V_main_arg0 m c)),
    h1.trans ((behind_of_ne m c (Proc.devRef .tc main_arg1) (by decide)).trans (V_main_arg1 m c)),
    h2.trans ((behind_of_ne m c (Proc.devRef .tc main_arg2) (by decide)).trans (V_main_arg2 m c)),
    h3.trans ((behind_of_ne m c (Proc.devRef .tc main_arg3) (by decide)).trans (V_main_arg3 m c)),
    h4.trans ((behind_of_ne m c (Proc.devRef .tc main_arg4) (by decide)).trans (V_main_arg4 m c))⟩

set_option backward.isDefEq.respectTransparency.types false in
/-- Every weakly fair run of the program ends, with the arguments as they were, the result at what the call's window
    wrote back, and every semaphore at zero. -/
theorem run_main : θ_run defs (onTc (τ := τ) (main (F := F))) ⟨m, fun _ => 0, ρ⟩
    (fun r => (∀ c : Dev nD, agrees m c r.2) ∧ r.2.sem = fun _ => 0) :=
  Pipeline.θ_run_regions_kit_sems (pcfgs (F := F)) adm (pdats m) () cellOf_inj EP defs₀ Variants.none labels height m ρ main (segs m)
    (fun c Q => by rw [main_eq m c])
    (by simp only [segs, Pipeline.Seg.pipes_host, Pipeline.Seg.pipes_region, Pipeline.Seg.pipes_nil]; decide)
    (O₀ := owedStart) (hL := labels_of_ne) (G := G) (u₀ := u₀)
    (hu₀ := by
      unfold u₀ G
      iintro Hu
      ihave H := (ownU_pair _ _) $$ Hu
      icases H with ⟨HP, HX⟩
      imodintro
      isplitl [HP]; · iexact HP
      rw [bigSep_givenTo]; iexact HX)
    (T₀ := begun m) (Tₙ := ended m)
    (hch := ⟨fun _ => .rfl, region_pre m, region_post m⟩)
    (hinit := init m ρ)
    (QY := fun c s => agrees m c s ∧ s.sem (barCell c) = 0)
    (hfin := final m)
    (hQ := fun s h hs => ⟨fun c => (h c).1, sem_eq_zero hs fun c sm hsm => by
      obtain rfl := only_barrier sm hsm
      exact (h c).2⟩)

end Cert.KernelIdeal.Talk

end
-- ==== Proof.Precondition.lean ====
/-
  The precondition, read back: the queries and the keys are reals, every length is at least one, and every slot below
  its row's length names a page there is.
-/
module

public import proofs.«01_k».proof.Pre_well_formed_KernelIdeal
public import proofs.«01_k».proof.Pre_well_formed_ReferenceIdeal
public import Idealize.ShloMosaic.Lib.ReduceAll
public import Idealize.ShloMosaic.Lib.Pointwise
public import Idealize.ShloMosaic.PureOps.Ideal.Laws

@[expose] public section

noncomputable section

namespace Cert.Precondition

open Idealize.ShloMosaic
open Idealize.ShloMosaic.Pointwise
open Cert.Pre_well_formed_KernelIdeal

/-! The shapes the precondition's two copies state. -/

theorem kernel_facts : Cert.Pre_well_formed_KernelIdeal.Facts := by
  constructor <;> decide
theorem reference_facts : Cert.Pre_well_formed_ReferenceIdeal.Facts := by
  constructor <;> decide

variable [Facts]

/-- An extended real of an absolute value below infinity is a real. -/
theorem real_of_abs (x : EReal) (h : FloatOps.cmpf (F := Ideal) (φ := .f32) .olt (FloatOps.hostAbsf (F := Ideal) (φ := .f32) x) (Ideal.ofBits .f32 0x7F800000#32) = 1#1) :
    ∃ r : ℝ, x = (r : EReal) := by
  have htop : Ideal.ofBits .f32 0x7F800000#32 = ⊤ := by simp [Ideal.ofBits, Ideal.ieee]
  rw [htop] at h
  have hlt : max x (-x) < ⊤ := by
    by_contra hn
    have h' : BitVec.ofBool (decide (max x (-x) < ⊤)) = 1#1 := h
    rw [decide_eq_false hn] at h'
    exact absurd h' (by decide)
  rw [max_lt_iff] at hlt
  refine ⟨x.toReal, (EReal.coe_toReal hlt.1.ne fun hx => ?_).symm⟩
  rw [hx] at hlt
  exact absurd hlt.2 (by simp)

/-- What the precondition says of one device's arguments, entry by entry. -/
theorem read (q : FVec Ideal S16x1x16x64 .f32) (k v : FVec Ideal S128x16x16x64 .f32) (bt : IVec S16x128 32) (lens : IVec S16 32)
    (h : fn (F := Ideal) q k v bt lens = fun _ => 1#1) :
    (∀ i, ∃ r : ℝ, (q i : EReal) = (r : EReal)) ∧ (∀ i, ∃ r : ℝ, (k i : EReal) = (r : EReal)) ∧ (∀ b, 1 ≤ (lens (ix1 b)).toInt)
      ∧ ∀ b s, (lens (ix1 b)).toInt ≤ (BitVec.ofNat 32 s.val).toInt ∨ (0 ≤ (bt (ix2 b s)).toInt ∧ (bt (ix2 b s)).toInt < 256) := by
  haveI : Subsingleton S_.Idx := ⟨fun _ _ => funext fun a => a.elim0⟩
  have h0 := congrFun h (fun a => a.elim0)
  unfold fn fn_part1 at h0
  obtain ⟨h1, hp⟩ := IntOp.andi_eq_one.1 h0
  obtain ⟨h2, hl⟩ := IntOp.andi_eq_one.1 h1
  obtain ⟨hq, hk⟩ := IntOp.andi_eq_one.1 h2
  refine ⟨fun i => ?_, fun i => ?_, fun b => ?_, fun b s => ?_⟩
  · have e := Host.reduce_andi_all _ _ _ _ _ hq i
    exact real_of_abs _ e
  · have e := Host.reduce_andi_all _ _ _ _ _ hk i
    exact real_of_abs _ e
  · have e := Host.reduce_andi_all _ _ _ _ _ hl (ix1 b)
    exact IntOp.cmpi_sge.1 e
  · have e := Host.reduce_andi_all _ _ _ _ _ hp (ix2 b s)
    pointwise at e
    exact (IntOp.ori_eq_one.1 e).imp IntOp.cmpi_sge.1 fun e' =>
      (IntOp.andi_eq_one.1 e').imp IntOp.cmpi_sge.1 IntOp.cmpi_slt.1

end Cert.Precondition
-- ==== Proof.Equation.lean ====
/-
  The mathematics of attention in two halves, over the extended reals. Scores are real; the values may be anything.
  `mix σ used page M v` is the sum, over the slots in use and the places of a page, of the exponential of the score less
  `M`, times the value. It is what a reader of the block table sums; a device that sums over its own pages instead, each
  counted as often as the table names it, sums its share of it (`halves`). Changing `M` scales it (`mix_shift`), so the
  quotient of two such sums does not depend on `M`.
-/
module

public import Idealize.ShloMosaic.PureOps.Ideal

@[expose] public section

noncomputable section

namespace Cert.Attention

open Idealize.ShloMosaic
open scoped BigOperators

/-! ## Sums of weighted extended reals -/

/-- A nonnegative real times a sum. -/
theorem real_mul_sum {ι : Type*} (s : Finset ι) (c : ℝ) (hc : 0 ≤ c) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha,
      EReal.left_distrib_of_nonneg_of_ne_top (EReal.coe_nonneg.2 hc) (EReal.coe_ne_top c), ih]

/-- A sum of nonnegative reals, times an extended real. -/
theorem sum_real_mul {ι : Type*} (s : Finset ι) (w : ι → ℝ) (hw : ∀ i, 0 ≤ w i) (y : EReal) :
    ((∑ i ∈ s, w i : ℝ) : EReal) * y = ∑ i ∈ s, (w i : EReal) * y := by
  classical
  induction s using Finset.induction_on with
  | empty => simp
  | insert a s ha ih =>
    rw [Finset.sum_insert ha, Finset.sum_insert ha, EReal.coe_add,
      EReal.right_distrib_of_nonneg (EReal.coe_nonneg.2 (hw a)) (EReal.coe_nonneg.2 (Finset.sum_nonneg fun i _ => hw i)), ih]

/-- A sum of reals is real. -/
theorem coe_sum {ι : Type*} (s : Finset ι) (w : ι → ℝ) : ((∑ i ∈ s, w i : ℝ) : EReal) = ∑ i ∈ s, (w i : EReal) := by
  classical
  induction s using Finset.induction_on with
  | empty => simp
  | insert a s ha ih => rw [Finset.sum_insert ha, Finset.sum_insert ha, EReal.coe_add, ih]

/-- Dividing by a positive real is multiplying by its inverse. -/
theorem div_real (x : EReal) {y : ℝ} (hy : 0 < y) : Ideal.div x (y : EReal) = x * ((y⁻¹ : ℝ) : EReal) := by
  unfold Ideal.div
  rw [if_neg (by exact_mod_cast hy.ne'), EReal.coe_inv]

/-- A common positive factor cancels. -/
theorem div_scaled (c y : ℝ) (hc : 0 < c) (hy : 0 < y) (x : EReal) :
    Ideal.div ((c : EReal) * x) ((c : EReal) * (y : EReal)) = Ideal.div x (y : EReal) := by
  rw [← EReal.coe_mul, div_real _ (mul_pos hc hy), div_real _ hy, mul_comm (c : EReal) x, mul_assoc, ← EReal.coe_mul]
  congr 2
  rw [mul_inv, ← mul_assoc, mul_inv_cancel₀ hc.ne', one_mul]

theorem exp_real (r : ℝ) : Ideal.exp (r : EReal) = (Real.exp r : EReal) := rfl

/-- The exponential of a real less a real. -/
theorem exp_sub_real (a m : ℝ) : Ideal.exp ((a : EReal) - (m : EReal)) = ((Real.exp (a - m) : ℝ) : EReal) := by
  rw [← EReal.coe_sub, exp_real]

/-- Nothing has weight zero. -/
theorem exp_bot_sub (m : ℝ) : Ideal.exp ((⊥ : EReal) - (m : EReal)) = 0 := by
  rw [EReal.bot_sub]; rfl

/-- Adding the logarithm of a count to a score multiplies its weight by the count. -/
theorem exp_add_log (a m n : ℝ) (hn : 0 ≤ n) :
    Ideal.exp ((a : EReal) + Ideal.log (n : EReal) - (m : EReal)) = ((n * Real.exp (a - m) : ℝ) : EReal) := by
  rcases hn.eq_or_lt with rfl | hn
  · rw [show Ideal.log ((0 : ℝ) : EReal) = ⊥ from if_pos le_rfl, EReal.add_bot, exp_bot_sub, zero_mul, EReal.coe_zero]
  · rw [show Ideal.log (n : EReal) = (Real.log n : EReal) from if_neg (not_le.2 hn), ← EReal.coe_add, exp_sub_real,
      show a + Real.log n - m = Real.log n + (a - m) by ring, Real.exp_add, Real.exp_log hn]

/-! ## The sum over the slots -/

section
variable (σ : Fin 256 → Fin 16 → ℝ) (used : Fin 128 → Prop) [DecidablePred used] (page : Fin 128 → Fin 256)

/-- The weight of place `t` of slot `s`: nothing unless the slot is in use. -/
def share (M : ℝ) (s : Fin 128) (t : Fin 16) : ℝ := if used s then Real.exp (σ (page s) t - M) else 0

theorem share_nonneg (M : ℝ) (s : Fin 128) (t : Fin 16) : 0 ≤ share σ used page M s t := by
  unfold share; split
  · exact (Real.exp_pos _).le
  · exact le_rfl

/-- The weighted sum of the values of the places of the slots in use. -/
def mix (M : ℝ) (v : Fin 256 → Fin 16 → EReal) : EReal := ∑ t, ∑ s, (share σ used page M s t : EReal) * v (page s) t

/-- The sum of the weights. -/
def norm (M : ℝ) : ℝ := ∑ t, ∑ s, share σ used page M s t

theorem mix_one (M : ℝ) : mix σ used page M (fun _ _ => 1) = (norm σ used page M : EReal) := by
  unfold mix norm
  simp only [mul_one]
  rw [coe_sum]
  exact Finset.sum_congr rfl fun t _ => (coe_sum _ _).symm

theorem norm_pos (M : ℝ) (s : Fin 128) (hs : used s) : 0 < norm σ used page M := by
  unfold norm
  have h : 0 < ∑ s, share σ used page M s 0 :=
    Finset.sum_pos' (fun _ _ => share_nonneg ..) ⟨s, Finset.mem_univ _, by unfold share; rw [if_pos hs]; exact Real.exp_pos _⟩
  exact Finset.sum_pos' (fun _ _ => Finset.sum_nonneg fun _ _ => share_nonneg ..) ⟨0, Finset.mem_univ _, h⟩

theorem share_shift (M m : ℝ) (s : Fin 128) (t : Fin 16) :
    share σ used page M s t = Real.exp (m - M) * share σ used page m s t := by
  unfold share; split
  · rw [← Real.exp_add]; congr 1; ring
  · rw [mul_zero]

/-- Another reference point scales the sum. -/
theorem mix_shift (M m : ℝ) (v : Fin 256 → Fin 16 → EReal) :
    mix σ used page M v = ((Real.exp (m - M) : ℝ) : EReal) * mix σ used page m v := by
  unfold mix
  rw [real_mul_sum _ _ (Real.exp_pos _).le]
  refine Finset.sum_congr rfl fun t _ => ?_
  rw [real_mul_sum _ _ (Real.exp_pos _).le]
  refine Finset.sum_congr rfl fun s _ => ?_
  rw [share_shift σ used page M m, EReal.coe_mul, mul_assoc]

/-- The quotient does not depend on the reference point. -/
theorem quotient_shift (M m : ℝ) (v : Fin 256 → Fin 16 → EReal) (hn : ∃ s, used s) :
    Ideal.div (mix σ used page M v) (mix σ used page M fun _ _ => 1)
      = Ideal.div (mix σ used page m v) (norm σ used page m : EReal) := by
  obtain ⟨s, hs⟩ := hn
  rw [mix_shift σ used page M m v, mix_shift σ used page M m fun _ _ => 1, mix_one, div_scaled _ _ (Real.exp_pos _) (norm_pos σ used page m s hs)]

/-! ## The reference: the weights normalised one by one -/

/-- The score of a place of a slot, `⊥` where the slot is not in use. -/
def masked (s : Fin 128) (t : Fin 16) : EReal := if used s then (σ (page s) t : EReal) else ⊥

theorem exp_masked (m : ℝ) (s : Fin 128) (t : Fin 16) :
    Ideal.exp (masked σ used page s t - (m : EReal)) = (share σ used page m s t : EReal) := by
  unfold masked share; split
  · exact exp_sub_real _ _
  · rw [exp_bot_sub, EReal.coe_zero]

theorem normalised (m : ℝ) (v : Fin 256 → Fin 16 → EReal) (hn : ∃ s, used s) :
    ∑ t, ∑ s, v (page s) t * Ideal.div (share σ used page m s t : EReal) (norm σ used page m : EReal)
      = Ideal.div (mix σ used page m v) (norm σ used page m : EReal) := by
  obtain ⟨s, hs⟩ := hn
  have hp := norm_pos σ used page m s hs
  rw [div_real _ hp, mul_comm]
  unfold mix
  rw [real_mul_sum _ _ (inv_pos.2 hp).le]
  refine Finset.sum_congr rfl fun t _ => ?_
  rw [real_mul_sum _ _ (inv_pos.2 hp).le]
  refine Finset.sum_congr rfl fun s _ => ?_
  rw [div_real _ hp, mul_comm (v _ _), mul_assoc, mul_left_comm]

/-! ## The kernel: each device's pages, counted -/

/-- The page that device half `x` holds at place `p`. -/
def pageOf (x : Fin 2) (p : Fin 128) : Fin 256 := ⟨x.val * 128 + p.val, by omega⟩

/-- How many slots in use name a page. -/
def count (P : Fin 256) : ℝ := ∑ s, if used s ∧ page s = P then 1 else 0

theorem count_nonneg (P : Fin 256) : 0 ≤ count used page P :=
  Finset.sum_nonneg fun s _ => by split <;> norm_num

/-- A half's weight of place `t` of its page `p`. -/
def tally (M : ℝ) (x : Fin 2) (t : Fin 16) (p : Fin 128) : ℝ :=
  count used page (pageOf x p) * Real.exp (σ (pageOf x p) t - M)

theorem tally_nonneg (M : ℝ) (x : Fin 2) (t : Fin 16) (p : Fin 128) : 0 ≤ tally σ used page M x t p :=
  mul_nonneg (count_nonneg ..) (Real.exp_pos _).le

/-- A half's weighted sum. -/
def half (M : ℝ) (x : Fin 2) (v : Fin 256 → Fin 16 → EReal) : EReal :=
  ∑ t, ∑ p, (tally σ used page M x t p : EReal) * v (pageOf x p) t

theorem half_shift (M m : ℝ) (x : Fin 2) (v : Fin 256 → Fin 16 → EReal) :
    ((Real.exp (m - M) : ℝ) : EReal) * half σ used page m x v = half σ used page M x v := by
  unfold half
  rw [real_mul_sum _ _ (Real.exp_pos _).le]
  refine Finset.sum_congr rfl fun t _ => ?_
  rw [real_mul_sum _ _ (Real.exp_pos _).le]
  refine Finset.sum_congr rfl fun p _ => ?_
  rw [← mul_assoc, ← EReal.coe_mul]
  congr 2
  unfold tally
  rw [mul_left_comm, ← Real.exp_add]; congr 2; ring

/-- The pages of the two halves are all the pages. -/
theorem sum_halves {α : Type*} [AddCommMonoid α] (f : Fin 256 → α) : ∑ p, f (pageOf 0 p) + ∑ p, f (pageOf 1 p) = ∑ P, f P := by
  rw [← (finProdFinEquiv (m := 2) (n := 128)).sum_comp f, Fintype.sum_prod_type, Fin.sum_univ_two]
  exact congrArg₂ (· + ·)
    (Finset.sum_congr rfl fun p _ => congrArg f (Fin.ext (by show 0 * 128 + p.val = p.val + 128 * 0; omega)))
    (Finset.sum_congr rfl fun p _ => congrArg f (Fin.ext (by show 1 * 128 + p.val = p.val + 128 * 1; omega)))

/-- The two halves together are the sum over the slots. -/
theorem halves (M : ℝ) (v : Fin 256 → Fin 16 → EReal) :
    half σ used page M 0 v + half σ used page M 1 v = mix σ used page M v := by
  unfold half mix
  rw [← Finset.sum_add_distrib]
  refine Finset.sum_congr rfl fun t _ => ?_
  unfold tally
  rw [sum_halves fun P => ((count used page P * Real.exp (σ P t - M) : ℝ) : EReal) * v P t]
  have h : ∀ P, ((count used page P * Real.exp (σ P t - M) : ℝ) : EReal) * v P t
      = ∑ s, if page s = P then (share σ used page M s t : EReal) * v (page s) t else 0 := fun P => by
    unfold count
    rw [Finset.sum_mul, sum_real_mul _ _ fun s => mul_nonneg (by split <;> norm_num) (Real.exp_pos _).le]
    refine Finset.sum_congr rfl fun s _ => ?_
    unfold share
    by_cases hP : page s = P <;> by_cases hu : used s <;> simp [hP, hu]
  rw [Finset.sum_congr rfl fun P _ => h P, Finset.sum_comm]
  refine Finset.sum_congr rfl fun s _ => ?_
  rw [Finset.sum_ite_eq, if_pos (Finset.mem_univ _)]

/-- Two halves, each with its own reference point, put together as the kernel does. -/
theorem combine (m : Fin 2 → ℝ) (x : Fin 2) (v : Fin 256 → Fin 16 → EReal) :
    Ideal.exp ((m x : EReal) - max (m x : EReal) (m (1 - x) : EReal)) * half σ used page (m x) x v
      + Ideal.exp ((m (1 - x) : EReal) - max (m x : EReal) (m (1 - x) : EReal)) * half σ used page (m (1 - x)) (1 - x) v
      = mix σ used page (max (m x) (m (1 - x))) v := by
  rw [← EReal.coe_strictMono.monotone.map_max, exp_sub_real, exp_sub_real, half_shift, half_shift, ← halves]
  rcases (by omega : x = 0 ∨ x = 1) with rfl | rfl
  · rfl
  · exact add_comm _ _

/-- The kernel's quotient is the reference's. -/
theorem agree (m : Fin 2 → ℝ) (x : Fin 2) (r : ℝ) (v : Fin 256 → Fin 16 → EReal) (hn : ∃ s, used s) :
    Ideal.div
      (Ideal.exp ((m x : EReal) - max (m x : EReal) (m (1 - x) : EReal)) * half σ used page (m x) x v
        + Ideal.exp ((m (1 - x) : EReal) - max (m x : EReal) (m (1 - x) : EReal)) * half σ used page (m (1 - x)) (1 - x) v)
      (Ideal.exp ((m x : EReal) - max (m x : EReal) (m (1 - x) : EReal)) * half σ used page (m x) x (fun _ _ => 1)
        + Ideal.exp ((m (1 - x) : EReal) - max (m x : EReal) (m (1 - x) : EReal)) * half σ used page (m (1 - x)) (1 - x) fun _ _ => 1)
      = ∑ t, ∑ s, v (page s) t * Ideal.div (share σ used page r s t : EReal) (norm σ used page r : EReal) := by
  rw [combine, combine, quotient_shift σ used page _ r v hn, normalised σ used page r v hn]

end

/-! ## Maxima -/

/-- A maximum started at a real, of things none of which is `⊤`, is real. -/
theorem fold_max_ne_top {ι : Type*} (s : Finset ι) (b : EReal) (f : ι → EReal) (hb : b ≠ ⊤) (hf : ∀ i ∈ s, f i ≠ ⊤) :
    s.fold max b f ≠ ⊤ := by
  have : s.fold max b f < ⊤ := (Finset.fold_max_lt _).2 ⟨lt_top_iff_ne_top.2 hb, fun i hi => lt_top_iff_ne_top.2 (hf i hi)⟩
  exact this.ne

/-- A maximum is at least each of its members. -/
theorem le_fold_max {ι : Type*} (s : Finset ι) (b : EReal) (f : ι → EReal) (i : ι) (hi : i ∈ s) : f i ≤ s.fold max b f :=
  (Finset.le_fold_max _).2 (Or.inr ⟨i, hi, le_rfl⟩)

end Cert.Attention

end
-- ==== Proof.KernelIdeal.Entries.lean ====
/-
  The kernel's vectors, entry by entry, over the extended reals: what one entry of the bias, of a score, of a sum and of
  the combination is, as plain sums over pages, components and heads.
-/
module

public import proofs.«01_k».proof.Proof.KernelIdeal.Values
public import proofs.«01_k».proof.Proof.Equation
public import Idealize.ShloMosaic.Lib.Pointwise
public import Idealize.ShloMosaic.PureOps.Ideal.Laws

@[expose] public section

noncomputable section

namespace Cert.KernelIdeal.Talk

open Idealize.ShloMosaic Idealize.ShloMosaic.TcCoe
open Idealize.ShloMosaic.Pointwise
open Cert.KernelIdeal.Gen
open scoped BigOperators

/-! ## Words -/

theorem bit_value (b : BitVec 1) : FloatOps.sitofp (F := Ideal) .f32 (BitVec.setWidth 32 b) = if b = 1#1 then (1 : EReal) else 0 := by
  have hb : b = 0#1 ∨ b = 1#1 := by revert b; decide
  rcases hb with rfl | rfl
  · rw [if_neg (by decide)]
    show (((BitVec.setWidth 32 0#1).toInt : ℝ) : EReal) = 0
    rw [show (BitVec.setWidth 32 0#1).toInt = 0 by decide]; simp
  · rw [if_pos rfl]
    show (((BitVec.setWidth 32 1#1).toInt : ℝ) : EReal) = 1
    rw [show (BitVec.setWidth 32 1#1).toInt = 1 by decide]; simp
theorem same_word {a b : BitVec 32} : IntOp.cmpi .eq a b = 1#1 ↔ a = b := by
  show BitVec.ofBool (a == b) = 1#1 ↔ _
  rw [← beq_iff_eq (a := a)]
  cases a == b <;> decide
theorem same_small {a b : ℕ} (ha : a < 1024) (hb : b < 1024) : (BitVec.ofNat 32 a = BitVec.ofNat 32 b) ↔ a = b := by
  constructor
  · intro h
    have := congrArg BitVec.toNat h
    simp only [BitVec.toNat_ofNat] at this
    omega
  · rintro rfl; rfl

theorem row_head (r : Fin 256) (c : Fin 1024) : k0_pay6 (ix2 r c) = BitVec.ofNat 32 (r.val / 16) := by
  pointwise [k0_pay6]
  revert r; decide +kernel

/-- The head of a column, as the kernel computes it: the floor of a quotient by 64. -/
def headWord (c : BitVec 32) : BitVec 32 :=
  Scalar.select
    (IntOp.andi
      (IntOp.cmpi .ne
        (IntOp.subi (BitVec.setWidth 32 (IntOp.cmpi .sgt c 0#32)) (BitVec.setWidth 32 (IntOp.cmpi .slt c 0#32)))
        (Scalar.subi (Scalar.extui (Scalar.cmpi .sgt 64#32 0#32)) (Scalar.extui (Scalar.cmpi .slt 64#32 0#32))))
      (IntOp.cmpi .ne (IntOp.remsi .vector c 64#32) 0#32))
    (IntOp.subi (IntOp.divsi .vector c 64#32) 1#32)
    (IntOp.divsi .vector c 64#32)
theorem headWord_column (c : Fin 1024) : headWord (BitVec.ofNat 32 c.val) = BitVec.ofNat 32 (c.val / 64) := by
  revert c; decide +kernel

/-- A device's first page. -/
theorem first_page (d : Dev nD) :
    Scalar.muli (Scalar.remsi (Scalar.divsi (Dev.word d) 16#32) 2#32) 128#32 = BitVec.ofNat 32 (d.val / 16 * 128) := by
  revert d; decide +kernel

/-- One column belongs to one head. -/
theorem head_mask (h : Fin 16) (c : Fin 1024) : k0_pay120 (F := Ideal) (ix2 h c) = if h.val = c.val / 64 then (1 : EReal) else 0 := by
  pointwise [k0_pay120]
  show FloatOps.sitofp (F := Ideal) .f32 (BitVec.setWidth 32 (IntOp.cmpi .eq (BitVec.ofNat 32 h.val) (headWord (BitVec.ofNat 32 c.val)))) = _
  rw [bit_value, headWord_column]
  exact if_congr (same_word.trans (same_small (by omega) (by omega))) rfl rfl

/-! ## The arrays as they are read -/

/-- An entry of the query, of the keys and of the values a device holds, as an extended real. -/
abbrev qOf (q : (cc0_stg0_0 : Ref sig .tc).ty.Contents (Elt Ideal)) (i : S16x1x16x64.Idx) : EReal := q i
abbrev keysOf (f : (cc0_scratch0 : Ref sig .tc).ty.Contents (Elt Ideal)) (i : S16x16x64x128.Idx) : EReal := f i
abbrev valsOf (f : (cc0_scratch1 : Ref sig .tc).ty.Contents (Elt Ideal)) (i : S16x16x64x128.Idx) : EReal := f i
/-- An entry of the block table and a length, as words. -/
abbrev tableOf (bt : (cc0_stg1_0 : Ref sig .tc).ty.Contents (Elt Ideal)) (i : S16x128.Idx) : BitVec 32 := bt i
abbrev lensOf (ln : (cc0_stg2_0 : Ref sig .tc).ty.Contents (Elt Ideal)) (i : S16x1.Idx) : BitVec 32 := ln i

theorem readQ_at (q : (cc0_stg0_0 : Ref sig .tc).ty.Contents (Elt Ideal)) (i : S16x1x16x64.Idx) : readQ q i = qOf q i := by
  refine congrArg q (funext fun a => Fin.ext ?_)
  fin_cases a <;> exact (Nat.zero_add _).trans (Nat.one_mul _)
theorem readTable_at (bt : (cc0_stg1_0 : Ref sig .tc).ty.Contents (Elt Ideal)) (i : S16x128.Idx) : readTable bt i = tableOf bt i := by
  refine congrArg bt (funext fun a => Fin.ext ?_)
  fin_cases a <;> exact (Nat.zero_add _).trans (Nat.one_mul _)
theorem readLens_at (ln : (cc0_stg2_0 : Ref sig .tc).ty.Contents (Elt Ideal)) (i : S16x1.Idx) : readLens ln i = lensOf ln i := by
  refine congrArg ln (funext fun a => Fin.ext ?_)
  fin_cases a <;> exact (Nat.zero_add _).trans (Nat.one_mul _)
theorem keys_at (f : (cc0_scratch0 : Ref sig .tc).ty.Contents (Elt Ideal)) (t : Fin 16) (h : Fin 16) (j : Fin 64) (p : Fin 128) :
    chunk (Memref.whole cc0_scratch0) f t (ix4 0 h j p) = keysOf f (ix4 t h j p) := by
  refine congrArg f (funext fun a => Fin.ext ?_)
  fin_cases a
  · exact (Nat.add_zero _)
  all_goals exact (Nat.zero_add _).trans (Nat.one_mul _)
theorem vals_at (f : (cc0_scratch1 : Ref sig .tc).ty.Contents (Elt Ideal)) (t : Fin 16) (h : Fin 16) (j : Fin 64) (p : Fin 128) :
    chunk (Memref.whole cc0_scratch1) f t (ix4 0 h j p) = valsOf f (ix4 t h j p) := by
  refine congrArg f (funext fun a => Fin.ext ?_)
  fin_cases a
  · exact (Nat.add_zero _)
  all_goals exact (Nat.zero_add _).trans (Nat.one_mul _)

/-! ## Scores -/

/-- Row `16 h + b` of the scores, and column `64 h + j` of the queries. -/
abbrev row (h b : Fin 16) : Fin 256 := ⟨h.val * 16 + b.val, by omega⟩
abbrev col (h : Fin 16) (j : Fin 64) : Fin 1024 := ⟨h.val * 64 + j.val, by omega⟩

theorem row_div (h b : Fin 16) : (row h b).val / 16 = h.val := by simp only [row]; omega
theorem row_mod (h b : Fin 16) : (⟨(row h b).val % 16, Nat.mod_lt _ (by decide)⟩ : Fin 16) = b := Fin.ext (by simp only [row]; omega)

/-- Whether slot `s` names page `p` of the device and is in use. -/
def names (d : Dev nD) (bt : (cc0_stg1_0 : Ref sig .tc).ty.Contents (Elt Ideal)) (ln : (cc0_stg2_0 : Ref sig .tc).ty.Contents (Elt Ideal))
    (b : Fin 16) (p s : Fin 128) : Prop :=
  tableOf bt (ix2 b s) = BitVec.ofNat 32 p.val + BitVec.ofNat 32 (d.val / 16 * 128)
    ∧ IntOp.cmpi .slt (BitVec.ofNat 32 s.val) (lensOf ln (ix2 b 0)) = 1#1

open Classical in
theorem bias_at (d : Dev nD) (bt : (cc0_stg1_0 : Ref sig .tc).ty.Contents (Elt Ideal)) (ln : (cc0_stg2_0 : Ref sig .tc).ty.Contents (Elt Ideal))
    (h b : Fin 16) (p : Fin 128) :
    bias (F := Ideal) d bt ln (ix2 (row h b) p) = Ideal.log (∑ s : Fin 128, if names d bt ln b p s then (1 : EReal) else 0) := by
  unfold bias
  pointwise [k0_pay4, k0_pay3, k0_pay2]
  refine congrArg Ideal.log (Finset.sum_congr rfl fun s _ => ?_)
  rw [bit_value, readTable_at, readLens_at, row_mod, first_page]
  exact if_congr (IntOp.andi_eq_one.trans (and_congr same_word Iff.rfl)) rfl rfl

theorem queries_at (q : (cc0_stg0_0 : Ref sig .tc).ty.Contents (Elt Ideal)) (h b : Fin 16) (c : Fin 1024) :
    queries (F := Ideal) q (ix2 (row h b) c)
      = if h.val = c.val / 64 then qOf q (ix4 b 0 ⟨c.val / 64, by omega⟩ ⟨c.val % 64, by omega⟩) else 0 := by
  unfold queries
  pointwise [k0_pay8, k0_pay5, k0_pay7]
  rw [(row_head (row h b) c).trans (congrArg _ (row_div h b))]
  show (if IntOp.cmpi .eq (BitVec.ofNat 32 h.val) (headWord (BitVec.ofNat 32 c.val)) = 1#1 then _ else _) = _
  rw [headWord_column]
  refine if_congr (same_word.trans (same_small (by omega) (by omega))) ?_ ?_
  · rw [readQ_at, row_mod]
  · rfl

theorem eighth : Ideal.ofBits .f32 1040187392#32 = (((1 : ℝ) / 8 : ℝ) : EReal) := by
  simp [Ideal.ofBits, Ideal.ieee, -EReal.coe_mul]; norm_num

/-- A sum over the columns of one head's components is the sum over those. -/
theorem sum_head {M : Type*} [AddCommMonoid M] (h : Fin 16) (f : Fin 1024 → M) (hf : ∀ c : Fin 1024, h.val ≠ c.val / 64 → f c = 0) :
    ∑ c, f c = ∑ j : Fin 64, f (col h j) := by
  refine (Finset.sum_of_injOn (fun j => col h j) ?_ (fun _ _ => Finset.mem_coe.2 (Finset.mem_univ _)) ?_ fun _ _ => rfl).symm
  · intro a _ b _ e
    have := congrArg Fin.val e
    exact Fin.ext (by simp only [col] at this; omega)
  · intro c _ hc
    refine hf c fun e => hc ⟨⟨c.val % 64, by omega⟩, Finset.mem_coe.2 (Finset.mem_univ _), Fin.ext ?_⟩
    simp only [col]; omega

theorem score_at (d : Dev nD) (H : Held Ideal) (t h b : Fin 16) (p : Fin 128) :
    scores d H t (ix2 (row h b) p)
      = (∑ j : Fin 64, qOf H.q (ix4 b 0 h j) * keysOf H.keys (ix4 t h j p)) * (((1 : ℝ) / 8 : ℝ) : EReal)
        + bias d H.bt H.ln (ix2 (row h b) p) := by
  unfold scores score
  pointwise [k0_pay13]
  rw [eighth, sum_head h _ fun c hc => by rw [queries_at, if_neg hc, zero_mul]]
  refine congrArg (· * _ + _) (Finset.sum_congr rfl fun j _ => ?_)
  rw [queries_at, keys_at, if_pos (by simp only [col]; omega)]
  have e1 : (⟨(col h j).val / 64, by omega⟩ : Fin 16) = h := Fin.ext (by simp only [col]; omega)
  have e2 : (⟨(col h j).val % 64, by omega⟩ : Fin 64) = j := Fin.ext (by simp only [col]; omega)
  rw [e1, e2]

/-! ## Sums over the places -/

theorem weight_at (s : FVec Ideal S256x128 .f32) (m : FVec Ideal S256x1 .f32) (r : Fin 256) (p : Fin 128) :
    weight s m (ix2 r p) = Ideal.exp (s (ix2 r p) - m (ix2 r 0)) := by
  unfold weight
  pointwise

theorem place_self (t : Fin 16) : Fin.ofNat 16 t.val = t := Fin.ext (Nat.mod_eq_of_lt t.isLt)

theorem total_upto (p : Fin 16 → FVec Ideal S256x128 .f32) (r : Fin 256) (n : ℕ) :
    total p n (ix2 r 0) = ∑ k ∈ Finset.range n, ∑ x : Fin 128, p (Fin.ofNat 16 k) (ix2 r x) := by
  induction n with
  | zero =>
    rw [Finset.range_zero, Finset.sum_empty]
    unfold total
    pointwise
  | succ n ih =>
    rw [Finset.sum_range_succ, ← ih]
    conv_lhs => unfold total
    pointwise
theorem total_at (p : Fin 16 → FVec Ideal S256x128 .f32) (r : Fin 256) :
    total p 16 (ix2 r 0) = ∑ t : Fin 16, ∑ x : Fin 128, p t (ix2 r x) := by
  rw [total_upto, Finset.sum_range]
  exact Finset.sum_congr rfl fun t _ => by rw [place_self]

theorem numer_upto (p : Fin 16 → FVec Ideal S256x128 .f32) (v : Fin 16 → Vec Ideal S1x16x64x128 .f32) (r : Fin 256) (h : Fin 16) (j : Fin 64) (n : ℕ) :
    numer p v n (ix2 r (col h j)) = ∑ k ∈ Finset.range n, ∑ x : Fin 128, p (Fin.ofNat 16 k) (ix2 r x) * v (Fin.ofNat 16 k) (ix4 0 h j x) := by
  have e1 : (⟨(col h j).val / 64, by omega⟩ : Fin 16) = h := Fin.ext (by simp only [col]; omega)
  have e2 : (⟨(col h j).val % 64, by omega⟩ : Fin 64) = j := Fin.ext (by simp only [col]; omega)
  induction n with
  | zero =>
    rw [Finset.range_zero, Finset.sum_empty]
    unfold numer
    pointwise
  | succ n ih =>
    rw [Finset.sum_range_succ, ← ih]
    conv_lhs => unfold numer
    pointwise
    refine congrArg _ (Finset.sum_congr rfl fun x _ => congrArg _ ?_)
    exact congrArg (v (Fin.ofNat 16 n)) (congrArg₂ (fun a c => ix4 0 a c x) e1 e2)
theorem numer_at (p : Fin 16 → FVec Ideal S256x128 .f32) (v : Fin 16 → Vec Ideal S1x16x64x128 .f32) (r : Fin 256) (h : Fin 16) (j : Fin 64) :
    numer p v 16 (ix2 r (col h j)) = ∑ t : Fin 16, ∑ x : Fin 128, p t (ix2 r x) * v t (ix4 0 h j x) := by
  rw [numer_upto, Finset.sum_range]
  exact Finset.sum_congr rfl fun t _ => by rw [place_self]

/-- The kernel's least maximum is a real. -/
theorem floor_real : ∃ r : ℝ, Ideal.ofBits .f32 0xF149F2CA#32 = (r : EReal) := by
  simp only [Ideal.ofBits, Ideal.ieee]
  rw [if_neg (by decide), if_neg (by decide)]
  exact ⟨_, rfl⟩
theorem infinity_bottom : Ideal.ofBits .f32 4286578688#32 = ⊥ := by
  simp [Ideal.ofBits, Ideal.ieee]

theorem max_real {a b : EReal} (ha : ∃ r : ℝ, a = r) (hb : b ≠ ⊤) : ∃ r : ℝ, max a b = r := by
  obtain ⟨r, rfl⟩ := ha
  rcases max_cases (r : EReal) b with ⟨e, _⟩ | ⟨e, hlt⟩
  · exact ⟨r, e⟩
  · exact ⟨b.toReal, by rw [e, EReal.coe_toReal hb (fun hbot => by rw [hbot] at hlt; exact not_lt_bot hlt)]⟩

/-- The running maximum is a real as soon as no score is infinite above. -/
theorem best_real (s : Fin 16 → FVec Ideal S256x128 .f32) (r : Fin 256) (hs : ∀ t x, s t (ix2 r x) ≠ ⊤) (n : ℕ) :
    ∃ M : ℝ, best s n (ix2 r 0) = (M : EReal) := by
  induction n with
  | zero => exact floor_real
  | succ n ih =>
    have e : best s (n + 1) (ix2 r 0)
        = max (best s n (ix2 r 0)) (Finset.fold max (Ideal.ofBits .f32 4286578688#32) (fun x => s (Fin.ofNat 16 n) (ix2 r x)) Finset.univ) := by
      conv_lhs => unfold best
      pointwise
    rw [e]
    refine max_real ih ?_
    rw [infinity_bottom]
    exact Cert.Attention.fold_max_ne_top _ _ _ bot_ne_top fun x _ => hs _ x

/-! ## The combination -/

/-- What the combination makes of one row's and one head's two maxima, two sums and two numerators. -/
def combine (m m' l l' g g' : EReal) : EReal :=
  Ideal.div (Ideal.exp (m - max m m') * g + Ideal.exp (m' - max m m') * g') (Ideal.exp (m - max m m') * l + Ideal.exp (m' - max m m') * l')

/-- A sum over the heads against one column's mask is the head's own term. -/
theorem sum_mask (f : Fin 16 → EReal) (h : Fin 16) (j : Fin 64) : ∑ x : Fin 16, f x * k0_pay120 (F := Ideal) (ix2 x (col h j)) = f h := by
  rw [Finset.sum_eq_single h]
  · rw [head_mask, if_pos (by simp only [col]; omega), mul_one]
  · intro x _ hx
    rw [head_mask, if_neg fun e => hx (Fin.ext (by simp only [col] at e; omega)), mul_zero]
  · exact fun hh => absurd (Finset.mem_univ h) hh

/-- The columns of a summary that hold a head's maximum and its sum. -/
abbrev maxCol (h : Fin 16) : Fin 1056 := ⟨1024 + h.val, by omega⟩
abbrev sumCol (h : Fin 16) : Fin 1056 := ⟨1040 + h.val, by omega⟩
abbrev numCol (h : Fin 16) (j : Fin 64) : Fin 1056 := ⟨h.val * 64 + j.val, by omega⟩

/-- The maxima, the sums and the numerators of a summary, as they are read. -/
def maxes (f : Vec Ideal S16x1056 .f32) : Vec Ideal S16x16 .f32 :=
  View.readAt (Elt Ideal) outBox.view (Rect.unit (s := S16x1056) ![0, 1024] S16x16.size inb_S16x1056_S16x16_0_1024).toLoadRect f
def sumsOf (f : Vec Ideal S16x1056 .f32) : Vec Ideal S16x16 .f32 :=
  View.readAt (Elt Ideal) outBox.view (Rect.unit (s := S16x1056) ![0, 1040] S16x16.size inb_S16x1056_S16x16_0_1040).toLoadRect f
def nums (f : Vec Ideal S16x1056 .f32) : Vec Ideal S16x1024 .f32 :=
  View.readAt (Elt Ideal) outBox.view (Rect.unit (s := S16x1056) ![0, 0] S16x1024.size inb_S16x1056_S16x1024_0_0).toLoadRect f

theorem maxes_at (f : Vec Ideal S16x1056 .f32) (b h : Fin 16) : maxes f (ix2 b h) = f (ix2 b (maxCol h)) := by
  refine congrArg f (funext fun a => Fin.ext ?_)
  fin_cases a
  · exact (Nat.zero_add _).trans (Nat.one_mul _)
  · exact congrArg (1024 + ·) (Nat.one_mul _)
theorem sumsOf_at (f : Vec Ideal S16x1056 .f32) (b h : Fin 16) : sumsOf f (ix2 b h) = f (ix2 b (sumCol h)) := by
  refine congrArg f (funext fun a => Fin.ext ?_)
  fin_cases a
  · exact (Nat.zero_add _).trans (Nat.one_mul _)
  · exact congrArg (1040 + ·) (Nat.one_mul _)
theorem nums_at (f : Vec Ideal S16x1056 .f32) (b h : Fin 16) (j : Fin 64) : nums f (ix2 b (col h j)) = f (ix2 b (numCol h j)) := by
  refine congrArg f (funext fun a => Fin.ext ?_)
  fin_cases a <;> exact (Nat.zero_add _).trans (Nat.one_mul _)

theorem combined_at (mine theirs : Vec Ideal S16x1056 .f32) (b h : Fin 16) (j : Fin 64) :
    combined (F := Ideal) mine theirs (ix4 b 0 h j)
      = combine (mine (ix2 b (maxCol h))) (theirs (ix2 b (maxCol h))) (mine (ix2 b (sumCol h))) (theirs (ix2 b (sumCol h)))
          (mine (ix2 b (numCol h j))) (theirs (ix2 b (numCol h j))) := by
  show k0_pay1 (k0_pay121 (maxes mine) (maxes theirs) (nums mine) (nums theirs))
    (k0_pay122 (maxes mine) (sumsOf mine) (maxes theirs) (sumsOf theirs)) (ix4 b 0 h j) = _
  pointwise [k0_pay1, k0_pay121, k0_pay122, k0_pay118, k0_pay119, k0_pay117]
  rw [sum_mask, sum_mask, sum_mask]
  rw [maxes_at, maxes_at, sumsOf_at, sumsOf_at]
  rw [nums_at, nums_at]
  rfl

/-! ## The summary's entries -/

theorem packed_max (g : FVec Ideal S256x1024 .f32) (m l : FVec Ideal S256x1 .f32) (b h : Fin 16) :
    packed g m l (ix2 b (maxCol h)) = m (ix2 (row h b) 0) := by
  have hn : ¬ (1024 + h.val < 1024) := by omega
  have hp : 1024 + h.val < 1040 := by omega
  refine ((dif_neg hn).trans (dif_pos hp)).trans (congrArg (fun r => m (ix2 r 0)) (Fin.ext ?_))
  show (1024 + h.val - 1024) * 16 + b.val = h.val * 16 + b.val
  omega
theorem packed_sum (g : FVec Ideal S256x1024 .f32) (m l : FVec Ideal S256x1 .f32) (b h : Fin 16) :
    packed g m l (ix2 b (sumCol h)) = l (ix2 (row h b) 0) := by
  have hn : ¬ (1040 + h.val < 1024) := by omega
  have hp : ¬ (1040 + h.val < 1040) := by omega
  refine ((dif_neg hn).trans (dif_neg hp)).trans (congrArg (fun r => l (ix2 r 0)) (Fin.ext ?_))
  show (1040 + h.val - 1040) * 16 + b.val = h.val * 16 + b.val
  omega
theorem packed_num (g : FVec Ideal S256x1024 .f32) (m l : FVec Ideal S256x1 .f32) (b h : Fin 16) (j : Fin 64) :
    packed g m l (ix2 b (numCol h j)) = g (ix2 (row h b) (col h j)) := by
  have hn : h.val * 64 + j.val < 1024 := by omega
  refine (dif_pos hn).trans (congrArg (fun r => g (ix2 r (col h j))) (Fin.ext ?_))
  show (h.val * 64 + j.val) / 64 * 16 + b.val = h.val * 16 + b.val
  omega

end Cert.KernelIdeal.Talk
-- ==== Proof.Inputs.lean ====
/-
  The arguments of one call, whole: real queries and keys, extended real values, a block table and lengths. From them,
  for one row of the batch, the slots in use and the page each names, and for one head the score of every place of every
  page. `answer` is the weighted mean of the values over the places in use.
-/
module

public import proofs.«01_k».proof.Proof.Equation

@[expose] public section

noncomputable section

namespace Cert.Attention

open Idealize.ShloMosaic
open scoped BigOperators

/-- The arguments: queries by row, head and component; keys and values by page, place, head and component; the block
    table by row and slot; a length for each row. -/
structure Inputs where
  q : Fin 16 → Fin 16 → Fin 64 → ℝ
  keys : Fin 256 → Fin 16 → Fin 16 → Fin 64 → ℝ
  vals : Fin 256 → Fin 16 → Fin 16 → Fin 64 → EReal
  table : Fin 16 → Fin 128 → BitVec 32
  lens : Fin 16 → BitVec 32

namespace Inputs

variable (A : Inputs)

/-- Slot `s` of row `b` is in use: its number is below the row's length. -/
abbrev used (b : Fin 16) (s : Fin 128) : Prop := IntOp.cmpi .slt (BitVec.ofNat 32 s.val) (A.lens b) = 1#1
/-- The page slot `s` of row `b` names. -/
def page (b : Fin 16) (s : Fin 128) : Fin 256 := ⟨(A.table b s).toNat % 256, Nat.mod_lt _ (by decide)⟩
/-- The score of place `t` of page `P`. -/
def score (b h : Fin 16) (P : Fin 256) (t : Fin 16) : ℝ := (∑ j, A.q b h j * A.keys P t h j) * (1 / 8)

/-- Every row uses a slot, and each slot in use names a page there is. -/
structure Fits : Prop where
  some_used : ∀ b, ∃ s, A.used b s
  is_page : ∀ b s, A.used b s → (A.table b s).toNat < 256

/-- The result at row `b`, head `h` and component `j`, the scores taken less `r`. -/
def answer (r : ℝ) (b h : Fin 16) (j : Fin 64) : EReal :=
  ∑ t, ∑ s, A.vals (A.page b s) t h j
    * Ideal.div (share (A.score b h) (A.used b) (A.page b) r s t : EReal) (norm (A.score b h) (A.used b) (A.page b) r : EReal)

end Inputs

end Cert.Attention

end
-- ==== Proof.KernelIdeal.Answer.lean ====
/-
  The kernel's result in terms of the whole arguments: a device that holds half the pages sends a real maximum, the sum
  of its weights and the sum of its weighted values, and two devices with the two halves combine to the weighted mean
  over the places in use.
-/
module

public import proofs.«01_k».proof.Proof.KernelIdeal.Entries
public import proofs.«01_k».proof.Proof.Inputs

@[expose] public section

noncomputable section

namespace Cert.KernelIdeal.Talk

open Idealize.ShloMosaic Idealize.ShloMosaic.TcCoe
open Cert.KernelIdeal.Gen
open Cert.Attention (Inputs pageOf count tally half)
open scoped BigOperators

/-- Device `d` holds half `x` of the pages and everything else whole. -/
structure Holds (A : Inputs) (x : Fin 2) (d : Dev nD) (H : Held Ideal) : Prop where
  dev : d.val / 16 = x.val
  q : ∀ b h j, qOf H.q (ix4 b 0 h j) = (A.q b h j : EReal)
  table : ∀ b s, tableOf H.bt (ix2 b s) = A.table b s
  lens : ∀ b, lensOf H.ln (ix2 b 0) = A.lens b
  keys : ∀ t h j p, keysOf H.keys (ix4 t h j p) = (A.keys (pageOf x p) t h j : EReal)
  vals : ∀ t h j p, valsOf H.vals (ix4 t h j p) = A.vals (pageOf x p) t h j

variable {A : Inputs} {x : Fin 2} {d : Dev nD} {H : Held Ideal}

theorem Holds.names (hH : Holds A x d H) (hA : A.Fits) (b : Fin 16) (p s : Fin 128) :
    names d H.bt H.ln b p s ↔ A.used b s ∧ A.page b s = pageOf x p := by
  unfold Talk.names
  rw [hH.table, hH.lens, hH.dev, and_comm]
  refine and_congr_right fun hu => ?_
  have hlt := hA.is_page b s hu
  have hx := x.isLt
  have hp := p.isLt
  rw [← BitVec.toNat_inj, Fin.ext_iff]
  simp only [BitVec.toNat_add, BitVec.toNat_ofNat, Inputs.page, pageOf]
  omega

theorem Holds.bias (hH : Holds A x d H) (hA : A.Fits) (b h : Fin 16) (p : Fin 128) :
    bias d H.bt H.ln (ix2 (row h b) p) = Ideal.log ((count (A.used b) (A.page b) (pageOf x p) : ℝ) : EReal) := by
  classical
  rw [bias_at]
  rw [Cert.Attention.count]
  rw [Cert.Attention.coe_sum]
  refine congrArg _ (Finset.sum_congr rfl fun s _ => ?_)
  rw [apply_ite (fun r : ℝ => (r : EReal))]
  exact if_congr (hH.names hA b p s) EReal.coe_one.symm EReal.coe_zero.symm

theorem Holds.score (hH : Holds A x d H) (hA : A.Fits) (t b h : Fin 16) (p : Fin 128) :
    scores d H t (ix2 (row h b) p)
      = (A.score b h (pageOf x p) t : EReal) + Ideal.log ((count (A.used b) (A.page b) (pageOf x p) : ℝ) : EReal) := by
  rw [score_at, hH.bias hA, Inputs.score, EReal.coe_mul, Cert.Attention.coe_sum]
  refine congrArg (· * _ + _) (Finset.sum_congr rfl fun j _ => ?_)
  rw [hH.q, hH.keys, EReal.coe_mul]

theorem log_ne_top (r : ℝ) : Ideal.log (r : EReal) ≠ ⊤ := by
  show (if r ≤ 0 then (⊥ : EReal) else (Real.log r : EReal)) ≠ ⊤
  split
  · exact bot_ne_top
  · exact EReal.coe_ne_top _

theorem Holds.top_real (hH : Holds A x d H) (hA : A.Fits) (b h : Fin 16) : ∃ M : ℝ, top d H (ix2 (row h b) 0) = (M : EReal) :=
  best_real _ _ (fun t p => by
    rw [hH.score hA]
    exact EReal.add_ne_top (EReal.coe_ne_top _) (log_ne_top _)) 16

theorem Holds.weight (hH : Holds A x d H) (hA : A.Fits) (t b h : Fin 16) (p : Fin 128) (M : ℝ) (hM : top d H (ix2 (row h b) 0) = (M : EReal)) :
    weights d H t (ix2 (row h b) p) = (tally (A.score b h) (A.used b) (A.page b) M x t p : EReal) := by
  unfold weights
  rw [weight_at, hH.score hA, hM, Cert.Attention.exp_add_log _ _ _ (Cert.Attention.count_nonneg _ _ _)]
  rfl

/-- What the device sends of one row and head. -/
theorem Holds.summary (hH : Holds A x d H) (hA : A.Fits) (b h : Fin 16) (M : ℝ) (hM : top d H (ix2 (row h b) 0) = (M : EReal)) :
    summary d H (ix2 b (maxCol h)) = (M : EReal)
      ∧ summary d H (ix2 b (sumCol h)) = half (A.score b h) (A.used b) (A.page b) M x (fun _ _ => 1)
      ∧ ∀ j, summary d H (ix2 b (numCol h j)) = half (A.score b h) (A.used b) (A.page b) M x (fun P t => A.vals P t h j) := by
  refine ⟨(packed_max ..).trans hM, (packed_sum ..).trans ?_, fun j => (packed_num ..).trans ?_⟩
  · unfold sums
    rw [total_at]
    exact Finset.sum_congr rfl fun t _ => Finset.sum_congr rfl fun p _ => by rw [hH.weight hA t b h p M hM, mul_one]
  · unfold mass
    rw [numer_at]
    exact Finset.sum_congr rfl fun t _ => Finset.sum_congr rfl fun p _ => by rw [hH.weight hA t b h p M hM, vals_at, hH.vals]

/-- Two devices with the two halves combine to the answer. -/
theorem combined_answer {d' : Dev nD} {H' : Held Ideal} (hA : A.Fits) (hH : Holds A x d H) (hH' : Holds A (1 - x) d' H') (r : ℝ) (b h : Fin 16) (j : Fin 64) :
    combined (summary d H) (summary d' H') (ix4 b 0 h j) = A.answer r b h j := by
  obtain ⟨M, hM⟩ := hH.top_real hA b h
  obtain ⟨M', hM'⟩ := hH'.top_real hA b h
  obtain ⟨e1, e2, e3⟩ := hH.summary hA b h M hM
  obtain ⟨e1', e2', e3'⟩ := hH'.summary hA b h M' hM'
  have hne : (1 - x) ≠ x := (by decide : ∀ y : Fin 2, (1 - y) ≠ y) x
  have key := Cert.Attention.agree (A.score b h) (A.used b) (A.page b) (fun y => if y = x then M else M') x r (fun P t => A.vals P t h j) (hA.some_used b)
  simp only [if_true, if_neg hne] at key
  rw [combined_at, e1, e2, e3, e1', e2', e3']
  exact key

end Cert.KernelIdeal.Talk
-- ==== Proof.KernelIdeal.Given.lean ====
/-
  What each device is given: its staged inputs are its arguments, its keys and values the transposed pages. So the array
  the call writes back holds the answer, once the devices' arguments are one call's arguments in two halves.
-/
module

public import proofs.«01_k».proof.Proof.KernelIdeal.Launch
public import proofs.«01_k».proof.Proof.KernelIdeal.Answer
public import Idealize.ShloMosaic.Lib.Pipeline.ValueKit.Geometry

@[expose] public section

noncomputable section

namespace Cert.KernelIdeal.Talk

open Idealize.ShloMosaic Idealize.ShloMosaic.TcCoe
open Idealize.ShloMosaic.Pointwise
open Cert.KernelIdeal.Gen
open Cert.Attention (Inputs pageOf)

variable (m : (ℓ : Loc nD τ sig) → Buf (Elt Ideal) ℓ)

/-- The call's one write-back covers the result. -/
theorem written_eq (c : Dev nD) : written m c = result m c :=
  (dat m c).arrAt_eq_of_after_last 3 t0_0 (by decide +kernel) _ fun _ => rfl

/-! ## The host's arrays -/

theorem V_main_v1 (c : Dev nD) :
    V m c main_v1 = transpose S16x16x64x128 [1, 2, 3, 0] (m ((c : Thread nD τ).loc main_arg1)) transposes_S128x16x16x64_S16x16x64x128_1_2_3_0 := by
  simp only [V, hostOps0]
  after_results
theorem V_main_v2 (c : Dev nD) :
    V m c main_v2 = transpose S16x16x64x128 [1, 2, 3, 0] (m ((c : Thread nD τ).loc main_arg2)) transposes_S128x16x16x64_S16x16x64x128_1_2_3_0 := by
  simp only [V, hostOps0]
  after_results

theorem V_main_v3 (c : Dev nD) :
    (V m c main_v3 : S16x1.Idx → BitVec 32) = shapeCast S16x1 (m ((c : Thread nD τ).loc main_arg4) : S16.Idx → BitVec 32) shapeCasts_S16_S16x1 := by
  simp only [V, hostOps0]
  after_results
  rfl

/-! ## The entries a device holds -/

theorem given_q (c : Dev nD) (i : S16x1x16x64.Idx) : qOf (inputs m c).q i = (m ((c : Thread nD τ).loc main_arg0) i : EReal) := by
  rw [← V_main_arg0 m c]
  refine congrArg (V m c main_arg0) (funext fun a => Fin.ext ?_)
  fin_cases a <;> exact (Nat.zero_add _).trans (Nat.one_mul _)
theorem given_table (c : Dev nD) (i : S16x128.Idx) : tableOf (inputs m c).bt i = (m ((c : Thread nD τ).loc main_arg3) i : BitVec 32) := by
  rw [← V_main_arg3 m c]
  refine congrArg (V m c main_arg3) (funext fun a => Fin.ext ?_)
  fin_cases a <;> exact (Nat.zero_add _).trans (Nat.one_mul _)
theorem given_keys (c : Dev nD) (t h : Fin 16) (j : Fin 64) (p : Fin 128) :
    keysOf (inputs m c).keys (ix4 t h j p) = (m ((c : Thread nD τ).loc main_arg1) (ix4 p t h j) : EReal) := by
  show V m c main_v1 (ix4 t h j p) = _
  rw [V_main_v1]
  pointwise

theorem given_vals (c : Dev nD) (t h : Fin 16) (j : Fin 64) (p : Fin 128) :
    valsOf (inputs m c).vals (ix4 t h j p) = (m ((c : Thread nD τ).loc main_arg2) (ix4 p t h j) : EReal) := by
  show V m c main_v2 (ix4 t h j p) = _
  rw [V_main_v2]
  pointwise
theorem given_lens (c : Dev nD) (b : Fin 16) : lensOf (inputs m c).ln (ix2 b 0) = (m ((c : Thread nD τ).loc main_arg4) (ix1 b) : BitVec 32) := by
  have e : lensOf (inputs m c).ln (ix2 b 0) = (V m c main_v3 : S16x1.Idx → BitVec 32) (ix2 b 0) := by
    refine congrArg (V m c main_v3) (funext fun a => Fin.ext ?_)
    fin_cases a <;> exact (Nat.zero_add _).trans (Nat.one_mul _)
  rw [e, V_main_v3]
  pointwise

/-- Device `c`'s arguments are those of one call, its keys and values the pages of its half. -/
structure Given (A : Inputs) (c : Dev nD) : Prop where
  q : ∀ b h j, (m ((c : Thread nD τ).loc main_arg0) (ix4 b 0 h j) : EReal) = (A.q b h j : EReal)
  keys : ∀ (x : Fin 2) p t h j, c.val / 16 = x.val → (m ((c : Thread nD τ).loc main_arg1) (ix4 p t h j) : EReal) = (A.keys (pageOf x p) t h j : EReal)
  vals : ∀ (x : Fin 2) p t h j, c.val / 16 = x.val → (m ((c : Thread nD τ).loc main_arg2) (ix4 p t h j) : EReal) = A.vals (pageOf x p) t h j
  table : ∀ b s, (m ((c : Thread nD τ).loc main_arg3) (ix2 b s) : BitVec 32) = A.table b s
  lens : ∀ b, (m ((c : Thread nD τ).loc main_arg4) (ix1 b) : BitVec 32) = A.lens b

variable {m} {A : Inputs}

theorem Given.holds {c : Dev nD} (hc : Given m A c) (x : Fin 2) (hx : c.val / 16 = x.val) : Holds A x c (inputs m c) where
  dev := hx
  q b h j := (given_q m c _).trans (hc.q b h j)
  table b s := (given_table m c _).trans (hc.table b s)
  lens b := (given_lens m c b).trans (hc.lens b)
  keys t h j p := (given_keys m c t h j p).trans (hc.keys x p t h j hx)
  vals t h j p := (given_vals m c t h j p).trans (hc.vals x p t h j hx)

theorem other_half (c : Dev nD) (x : Fin 2) (hx : c.val / 16 = x.val) : (partner c).val / 16 = (1 - x).val := by
  revert c x; decide

/-- What the call writes back on each device. -/
theorem written_answer (hA : A.Fits) (hm : ∀ c, Given m A c) (r : ℝ) (c : Dev nD) (b h : Fin 16) (j : Fin 64) :
    (written m c (ix4 b 0 h j) : EReal) = A.answer r b h j := by
  have hx : c.val / 16 = (⟨c.val / 16, by have := c.isLt; change c.val < 32 at this; omega⟩ : Fin 2).val := rfl
  rw [written_eq]
  exact combined_answer hA ((hm c).holds _ hx) ((hm (partner c)).holds _ (other_half c _ hx)) r b h j

end Cert.KernelIdeal.Talk
-- ==== Proof.ReferenceIdeal.Terms.lean ====
/-
  The reference's result, entry by entry, over the extended reals: its named pieces, and one entry of each.
-/
module

public import proofs.«01_k».proof.Proof.Gen.ReferenceIdeal.Run
public import proofs.«01_k».proof.Proof.Inputs
public import Idealize.ShloMosaic.Lib.Pointwise
public import Idealize.ShloMosaic.PureOps.Ideal.Laws

@[expose] public section

noncomputable section

namespace Cert.ReferenceIdeal.Meaning

open Idealize.ShloMosaic Idealize.ShloMosaic.TcCoe
open Idealize.ShloMosaic.Pointwise
open Cert.ReferenceIdeal Cert.ReferenceIdeal.Gen
open scoped BigOperators

/-! ## The pieces -/

/-- The page each slot names, counted from the end if negative. -/
def slots (bt : IVec S16x128 32) : IVec S16x128x1 32 :=
  broadcastInDim S16x128x1 ![0, 1] bcast_S16x128_S16x128x1_0_1
    (select (cmpi .slt bt (broadcastInDim S16x128 ![] bcast_S_S16x128 (constantI S_ 32 0#32)))
      (addi bt (broadcastInDim S16x128 ![] bcast_S_S16x128 (constantI S_ 32 256#32))) bt)
/-- The pages the slots name. -/
def taken (X : FVec Ideal S256x16x16x64 .f32) (bt : IVec S16x128 32) : FVec Ideal S16x128x16x16x64 .f32 :=
  Host.gather gather_S256x16x16x64_S16x128x1_S16x128x16x16x64_234_0_n_n_0_2_1161664 X (slots bt)
/-- The scores, those of a slot not in use at minus infinity. -/
def scores (q : FVec Ideal S16x1x16x64 .f32) (k : FVec Ideal S16x128x16x16x64 .f32) (lens : IVec S16 32) : FVec Ideal S16x16x1x128x16 .f32 :=
  select (broadcastInDim S16x16x1x128x16 ![0, 1, 2, 3, 4] bcast_S16x1x1x128x1_S16x16x1x128x16_0_1_2_3_4
      (cmpi .slt (iotaInDim S16x1x1x128x1 32 3)
        (broadcastInDim S16x1x1x128x1 ![0, 1, 2, 3, 4] bcast_S16x1x1x1x1_S16x1x1x128x1_0_1_2_3_4 (shapeCast S16x1x1x1x1 lens shapeCasts_S16_S16x1x1x1x1))))
    (mulf (Host.dotGeneral dot_S16x1x16x64_S16x128x16x16x64_S16x16x1x128x16_3_4_1_12_02_03 none q k)
      (broadcastInDim S16x16x1x128x16 ![] bcast_S_S16x16x1x128x16 (constant S_ .f32 0x3E000000#32)))
    (broadcastInDim S16x16x1x128x16 ![] bcast_S_S16x16x1x128x16 (id (constant S_ .f32 0xFF800000#32)))
/-- One number of each row and head, repeated over the places. -/
def spread (f : FVec Ideal S16x16x1 .f32) : FVec Ideal S16x16x1x128x16 .f32 :=
  broadcastInDim S16x16x1x128x16 ![0, 1, 2, 3, 4] bcast_S16x16x1x1x1_S16x16x1x128x16_0_1_2_3_4
    (broadcastInDim S16x16x1x1x1 ![0, 1, 2] bcast_S16x16x1_S16x16x1x1x1_0_1_2 f)
/-- The largest score of each row and head. -/
def largest (s : FVec Ideal S16x16x1x128x16 .f32) : FVec Ideal S16x16x1 .f32 :=
  Host.reduce FloatOps.maximumf s (constant S_ .f32 0xFF800000#32) reducesTo_S16x16x1x128x16_S16x16x1_d3_4 h_S_
/-- The exponentials of the scores less the largest. -/
def exps (s : FVec Ideal S16x16x1x128x16 .f32) : FVec Ideal S16x16x1x128x16 .f32 := Host.exp (subf s (spread (largest s)))
/-- Their sums. -/
def added (e : FVec Ideal S16x16x1x128x16 .f32) : FVec Ideal S16x16x1 .f32 :=
  Host.reduceAdd e (constant S_ .f32 0x00000000#32) reducesTo_S16x16x1x128x16_S16x16x1_d3_4 h_S_
/-- The weights. -/
def shares (e : FVec Ideal S16x16x1x128x16 .f32) : FVec Ideal S16x16x1x128x16 .f32 := Host.divf e (spread (added e))
/-- The weighted values, summed and laid out by row, head and component. -/
def mixed (v : FVec Ideal S16x128x16x16x64 .f32) (p : FVec Ideal S16x16x1x128x16 .f32) : FVec Ideal S16x1x16x64 .f32 :=
  transpose S16x1x16x64 [0, 3, 1, 2] (Host.dotGeneral dot_S16x128x16x16x64_S16x16x1x128x16_S16x16x64x1_21_43_4_2_03_01 none v p) transposes_S16x16x64x1_S16x1x16x64_0_3_1_2

variable (m : (ℓ : Loc nD τ sig) → Buf (Elt Ideal) ℓ) (c : Dev nD)

theorem result_eq : Value.res_main_v32 m c
    = mixed (taken (m ((c.tc : Thread nD τ).loc main_arg2)) (m ((c.tc : Thread nD τ).loc main_arg3)))
        (shares (exps (scores (m ((c.tc : Thread nD τ).loc main_arg0))
          (taken (m ((c.tc : Thread nD τ).loc main_arg1)) (m ((c.tc : Thread nD τ).loc main_arg3)))
          (m ((c.tc : Thread nD τ).loc main_arg4))))) := rfl

/-! ## An entry of each -/

theorem mixed_at (v : FVec Ideal S16x128x16x16x64 .f32) (p : FVec Ideal S16x16x1x128x16 .f32) (b h : Fin 16) (j : Fin 64) :
    mixed v p (ix4 b 0 h j) = ∑ t : Fin 16, ∑ s : Fin 128, v (ix5 b s t h j) * p (ix5 b h 0 s t) := by
  unfold mixed
  pointwise
theorem shares_at (e : FVec Ideal S16x16x1x128x16 .f32) (b h : Fin 16) (s : Fin 128) (t : Fin 16) :
    shares e (ix5 b h 0 s t) = Ideal.div (e (ix5 b h 0 s t)) (added e (ix3 b h 0)) := by
  unfold shares spread
  pointwise
theorem exps_at (e : FVec Ideal S16x16x1x128x16 .f32) (b h : Fin 16) (s : Fin 128) (t : Fin 16) :
    exps e (ix5 b h 0 s t) = Ideal.exp (e (ix5 b h 0 s t) - largest e (ix3 b h 0)) := by
  unfold exps spread
  pointwise

/-- The places of one row and head are those the reduction over slots and places folds together. -/
theorem drop_place (b h : Fin 16) (s : Fin 128) (t : Fin 16) : reducesTo_S16x16x1x128x16_S16x16x1_d3_4.drop (ix5 b h 0 s t) = ix3 b h 0 := by
  funext a
  fin_cases a <;> rfl
theorem place_of_drop (b h : Fin 16) (i : S16x16x1x128x16.Idx) (hi : reducesTo_S16x16x1x128x16_S16x16x1_d3_4.drop i = ix3 b h 0) :
    ix5 b h 0 (i 3 : Fin 128) (i 4 : Fin 16) = i := by
  have h0 : (i 0).val = b.val := congrArg Fin.val (congrFun hi 0)
  have h1 : (i 1).val = h.val := congrArg Fin.val (congrFun hi 1)
  have h2 : (i 2).val < 1 := (i 2).isLt
  funext a
  apply Fin.ext
  fin_cases a
  · exact h0.symm
  · exact h1.symm
  · show 0 = (i 2).val; omega
  · rfl
  · rfl

theorem added_at (e : FVec Ideal S16x16x1x128x16 .f32) (b h : Fin 16) :
    added e (ix3 b h 0) = ∑ t : Fin 16, ∑ s : Fin 128, e (ix5 b h 0 s t) := by
  unfold added
  pointwise
  unfold Ideal.hostReduceAdd
  rw [zero_add, ← Fintype.sum_prod_type' (fun t s => e (ix5 b h 0 s t))]
  refine Finset.sum_nbij' (fun i => ((i 4 : Fin 16), (i 3 : Fin 128))) (fun ts => ix5 b h 0 ts.2 ts.1) ?_ ?_ ?_ ?_ ?_
  · exact fun _ _ => Finset.mem_univ _
  · exact fun ts _ => Finset.mem_filter.2 ⟨Finset.mem_univ _, drop_place b h ts.2 ts.1⟩
  · exact fun i hi => place_of_drop b h i (Finset.mem_filter.1 hi).2
  · exact fun _ _ => rfl
  · exact fun i hi => congrArg e (place_of_drop b h i (Finset.mem_filter.1 hi).2).symm

theorem infinity_bottom : Ideal.ofBits .f32 4286578688#32 = ⊥ := by
  simp [Ideal.ofBits, Ideal.ieee]
theorem eighth : Ideal.ofBits .f32 1040187392#32 = (((1 : ℝ) / 8 : ℝ) : EReal) := by
  simp [Ideal.ofBits, Ideal.ieee, -EReal.coe_mul]; norm_num

/-- The largest score is a real once none is infinite above and one is a real. -/
theorem largest_real (e : FVec Ideal S16x16x1x128x16 .f32) (b h : Fin 16) (htop : ∀ s t, e (ix5 b h 0 s t) ≠ ⊤)
    (s₀ : Fin 128) (t₀ : Fin 16) (hbot : e (ix5 b h 0 s₀ t₀) ≠ ⊥) : ∃ r : ℝ, largest e (ix3 b h 0) = (r : EReal) := by
  unfold largest
  pointwise
  rw [infinity_bottom]
  refine ⟨_, (EReal.coe_toReal ?_ ?_).symm⟩
  · refine Cert.Attention.fold_max_ne_top _ _ _ bot_ne_top fun i hi => ?_
    rw [← place_of_drop b h i (Finset.mem_filter.1 hi).2]
    exact htop _ _
  · have hle := Cert.Attention.le_fold_max (Finset.univ.filter fun i => reducesTo_S16x16x1x128x16_S16x16x1_d3_4.drop i = ix3 b h 0) ⊥ e
      (ix5 b h 0 s₀ t₀) (Finset.mem_filter.2 ⟨Finset.mem_univ _, drop_place b h s₀ t₀⟩)
    exact fun hb => hbot (le_bot_iff.1 (hb ▸ hle))

theorem scores_at (q : FVec Ideal S16x1x16x64 .f32) (k : FVec Ideal S16x128x16x16x64 .f32) (l : IVec S16 32) (b h : Fin 16) (s : Fin 128) (t : Fin 16) :
    scores q k l (ix5 b h 0 s t) = if IntOp.cmpi .slt (BitVec.ofNat 32 s.val) (l (ix1 b)) = 1#1
      then (∑ j : Fin 64, q (ix4 b 0 h j) * k (ix5 b s t h j)) * (((1 : ℝ) / 8 : ℝ) : EReal) else ⊥ := by
  unfold scores
  pointwise
  rw [eighth]
  show (if _ = 1#1 then _ else Ideal.ofBits .f32 4286578688#32) = _
  rw [infinity_bottom]

theorem slots_at (bt : IVec S16x128 32) (b : Fin 16) (s : Fin 128) :
    slots bt (ix3 b s 0) = if IntOp.cmpi .slt (bt (ix2 b s)) 0#32 = 1#1 then IntOp.addi (bt (ix2 b s)) 256#32 else bt (ix2 b s) := by
  unfold slots
  pointwise
  rfl

theorem taken_at (X : FVec Ideal S256x16x16x64 .f32) (bt : IVec S16x128 32) (b : Fin 16) (s : Fin 128) (t h : Fin 16) (j : Fin 64) :
    taken X bt (ix5 b s t h j) = X (ix4 ⟨min (slots bt (ix3 b s 0)).toInt.toNat 255, by omega⟩ t h j) := by
  unfold taken Host.gather
  refine congrArg X (funext fun a => Fin.ext ?_)
  fin_cases a
  · show min (slots bt (gather_S256x16x16x64_S16x128x1_S16x128x16x16x64_234_0_n_n_0_2_1161664.siIdx (ix5 b s t h j) ⟨0, by decide⟩)).toInt.toNat 255 + 0 + 0 = _
    refine congrArg (fun i => min (slots bt i).toInt.toNat 255) (funext fun a => Fin.ext ?_)
    fin_cases a <;> rfl
  · exact (Nat.zero_add _).trans rfl
  · exact (Nat.zero_add _).trans rfl
  · exact (Nat.zero_add _).trans rfl

/-- A slot that names a page there is takes that page. -/
theorem taken_page (X : FVec Ideal S256x16x16x64 .f32) (bt : IVec S16x128 32) (b : Fin 16) (s : Fin 128) (hs : (bt (ix2 b s)).toNat < 256)
    (t h : Fin 16) (j : Fin 64) : taken X bt (ix5 b s t h j) = X (ix4 ⟨(bt (ix2 b s)).toNat % 256, Nat.mod_lt _ (by decide)⟩ t h j) := by
  have hi : (bt (ix2 b s)).toInt = (bt (ix2 b s)).toNat := by
    rw [BitVec.toInt_eq_toNat_cond, if_pos (by omega)]
  rw [taken_at]
  refine congrArg (fun P => X (ix4 P t h j)) (Fin.ext ?_)
  show min _ 255 = _ % 256
  have hn : ¬ IntOp.cmpi .slt (bt (ix2 b s)) 0#32 = 1#1 := by
    show ¬ BitVec.ofBool (BitVec.slt _ _) = 1#1
    rw [BitVec.slt, hi]
    have : decide (((bt (ix2 b s)).toNat : ℤ) < (0#32).toInt) = false := decide_eq_false (by rw [show (0#32).toInt = 0 by decide]; omega)
    rw [this]
    decide
  rw [slots_at, if_neg hn, hi]
  omega

end Cert.ReferenceIdeal.Meaning
-- ==== Proof.ReferenceIdeal.Answer.lean ====
/-
  The reference's result in terms of the whole arguments: the weighted mean of the values over the places in use, the
  scores taken less their maximum, which is a real.
-/
module

public import proofs.«01_k».proof.Proof.ReferenceIdeal.Terms

@[expose] public section

noncomputable section

namespace Cert.ReferenceIdeal.Meaning

open Idealize.ShloMosaic Idealize.ShloMosaic.TcCoe
open Idealize.ShloMosaic.Pointwise
open Cert.ReferenceIdeal Cert.ReferenceIdeal.Gen
open Cert.Attention (Inputs share norm masked)
open scoped BigOperators

variable (m : (ℓ : Loc nD τ sig) → Buf (Elt Ideal) ℓ) (c : Dev nD)

/-- The reference's arguments are those of the call `A`. -/
structure Given (A : Inputs) : Prop where
  q : ∀ b h j, (m ((c.tc : Thread nD τ).loc main_arg0) (ix4 b 0 h j) : EReal) = (A.q b h j : EReal)
  keys : ∀ P t h j, (m ((c.tc : Thread nD τ).loc main_arg1) (ix4 P t h j) : EReal) = (A.keys P t h j : EReal)
  vals : ∀ P t h j, (m ((c.tc : Thread nD τ).loc main_arg2) (ix4 P t h j) : EReal) = A.vals P t h j
  table : ∀ b s, (m ((c.tc : Thread nD τ).loc main_arg3) (ix2 b s) : BitVec 32) = A.table b s
  lens : ∀ b, (m ((c.tc : Thread nD τ).loc main_arg4) (ix1 b) : BitVec 32) = A.lens b

/-- The scores from the memory, and the values taken. -/
abbrev scored : FVec Ideal S16x16x1x128x16 .f32 :=
  scores (m ((c.tc : Thread nD τ).loc main_arg0)) (taken (m ((c.tc : Thread nD τ).loc main_arg1)) (m ((c.tc : Thread nD τ).loc main_arg3)))
    (m ((c.tc : Thread nD τ).loc main_arg4))

variable {m c} {A : Inputs}

/-- A page a slot in use names, as it is taken. -/
theorem Given.taken (hm : Given m c A) (hA : A.Fits) (X : FVec Ideal S256x16x16x64 .f32) (b : Fin 16) (s : Fin 128) (hs : A.used b s) (t h : Fin 16) (j : Fin 64) :
    taken X (m ((c.tc : Thread nD τ).loc main_arg3)) (ix5 b s t h j) = X (ix4 (A.page b s) t h j) := by
  have e := hm.table b s
  have hlt : ((m ((c.tc : Thread nD τ).loc main_arg3) (ix2 b s) : BitVec 32)).toNat < 256 := by rw [e]; exact hA.is_page b s hs
  refine (taken_page X _ b s hlt t h j).trans (congrArg (fun P => X (ix4 P t h j)) (Fin.ext ?_))
  exact congrArg (fun w : BitVec 32 => w.toNat % 256) e

theorem Given.scored (hm : Given m c A) (hA : A.Fits) (b h : Fin 16) (s : Fin 128) (t : Fin 16) :
    scored m c (ix5 b h 0 s t) = masked (A.score b h) (A.used b) (A.page b) s t := by
  refine (scores_at _ _ _ b h s t).trans ?_
  unfold masked
  refine (if_congr (by rw [hm.lens]) rfl rfl).trans ?_
  by_cases hs : A.used b s
  · rw [if_pos hs, if_pos hs, Inputs.score, EReal.coe_mul, Cert.Attention.coe_sum]
    refine congrArg (· * _) (Finset.sum_congr rfl fun j _ => ?_)
    rw [hm.taken hA _ b s hs, hm.q, hm.keys, EReal.coe_mul]
  · rw [if_neg hs, if_neg hs]

theorem Given.largest (hm : Given m c A) (hA : A.Fits) (b h : Fin 16) : ∃ r : ℝ, largest (Meaning.scored m c) (ix3 b h 0) = (r : EReal) := by
  obtain ⟨s₀, hs₀⟩ := hA.some_used b
  refine largest_real _ b h (fun s t => ?_) s₀ 0 ?_
  · rw [hm.scored hA, masked]
    split
    · exact EReal.coe_ne_top _
    · exact bot_ne_top
  · rw [hm.scored hA, masked, if_pos hs₀]
    exact EReal.coe_ne_bot _

/-- The reference's result is the answer. -/
theorem Given.answer (hm : Given m c A) (hA : A.Fits) (b h : Fin 16) :
    ∃ r : ℝ, ∀ j, (Value.res_main_v32 m c (ix4 b 0 h j) : EReal) = A.answer r b h j := by
  obtain ⟨r, hr⟩ := hm.largest hA b h
  refine ⟨r, fun j => ?_⟩
  have he : ∀ s t, exps (Meaning.scored m c) (ix5 b h 0 s t) = (share (A.score b h) (A.used b) (A.page b) r s t : EReal) := fun s t => by
    rw [exps_at, hr, hm.scored hA, Cert.Attention.exp_masked]
  have hsum : added (exps (Meaning.scored m c)) (ix3 b h 0) = (norm (A.score b h) (A.used b) (A.page b) r : EReal) := by
    rw [added_at]
    unfold Cert.Attention.norm
    rw [Cert.Attention.coe_sum]
    refine Finset.sum_congr rfl fun t _ => ?_
    rw [Cert.Attention.coe_sum]
    exact Finset.sum_congr rfl fun s _ => he s t
  obtain ⟨s₀, hs₀⟩ := hA.some_used b
  have hpos := Cert.Attention.norm_pos (A.score b h) (A.used b) (A.page b) r s₀ hs₀
  refine (congrFun (result_eq m c) _).trans ((mixed_at _ _ b h j).trans ?_)
  unfold Inputs.answer
  refine Finset.sum_congr rfl fun t _ => Finset.sum_congr rfl fun s _ => ?_
  rw [shares_at]
  refine (congrArg (_ * ·) (congrArg₂ Ideal.div (he s t) hsum)).trans ?_
  by_cases hs : A.used b s
  · rw [hm.taken hA _ b s hs, hm.vals]
  · rw [share, if_neg hs, EReal.coe_zero, Ideal.div, if_neg (by exact_mod_cast hpos.ne'), zero_mul, mul_zero, mul_zero]

end Cert.ReferenceIdeal.Meaning
-- ==== Proof.Whole.lean ====
/-
  One call's arguments, read off the reference's memory, are what each device holds its part of. The precondition on the
  devices' parts makes the whole queries and keys real and the table fit, so the array each device writes back is the
  array the reference returns.
-/
module

public import proofs.«01_k».proof.Defs
public import proofs.«01_k».proof.Proof.Precondition
public import proofs.«01_k».proof.Proof.KernelIdeal.Given
public import proofs.«01_k».proof.Proof.ReferenceIdeal.Answer

@[expose] public section

noncomputable section

namespace Cert.Whole

open Idealize.ShloMosaic
open Idealize.ShloMosaic.Pointwise
open Cert.Attention (Inputs pageOf)

/-- The memories of the kernel's devices, and of the reference's one. -/
abbrev Memories := (ℓ : Loc Cert.KernelIdeal.nD Cert.KernelIdeal.τ Cert.KernelIdeal.sig) → Buf (Elt Ideal) ℓ
abbrev Memory := (ℓ : Loc Cert.ReferenceIdeal.nD Cert.ReferenceIdeal.τ Cert.ReferenceIdeal.sig) → Buf (Elt Ideal) ℓ

variable (m : Memories) (m' : Memory)

/-! ## The reference's arguments, as arrays of scalars -/

abbrev queries : Cert.ReferenceIdeal.S16x1x16x64.Idx → EReal :=
  m' (((0 : Dev Cert.ReferenceIdeal.nD).tc : Thread Cert.ReferenceIdeal.nD Cert.ReferenceIdeal.τ).loc Cert.ReferenceIdeal.main_arg0)
abbrev keys : Cert.ReferenceIdeal.S256x16x16x64.Idx → EReal :=
  m' (((0 : Dev Cert.ReferenceIdeal.nD).tc : Thread Cert.ReferenceIdeal.nD Cert.ReferenceIdeal.τ).loc Cert.ReferenceIdeal.main_arg1)
abbrev values : Cert.ReferenceIdeal.S256x16x16x64.Idx → EReal :=
  m' (((0 : Dev Cert.ReferenceIdeal.nD).tc : Thread Cert.ReferenceIdeal.nD Cert.ReferenceIdeal.τ).loc Cert.ReferenceIdeal.main_arg2)
abbrev table : Cert.ReferenceIdeal.S16x128.Idx → BitVec 32 :=
  m' (((0 : Dev Cert.ReferenceIdeal.nD).tc : Thread Cert.ReferenceIdeal.nD Cert.ReferenceIdeal.τ).loc Cert.ReferenceIdeal.main_arg3)
abbrev lengths : Cert.ReferenceIdeal.S16.Idx → BitVec 32 :=
  m' (((0 : Dev Cert.ReferenceIdeal.nD).tc : Thread Cert.ReferenceIdeal.nD Cert.ReferenceIdeal.τ).loc Cert.ReferenceIdeal.main_arg4)

/-- What device `c` holds of an array of 256 pages: the pages of its half. -/
abbrev part (c : Dev Cert.KernelIdeal.nD) (v : Cert.ReferenceIdeal.S256x16x16x64.Idx → EReal) : Cert.KernelIdeal.S128x16x16x64.Idx → EReal :=
  Layout.blockN ⟨4, ![128, 16, 16, 64]⟩ ⟨4, ![256, 16, 16, 64]⟩ (Layout.meshBlock [2, 4, 4] ![[0], [], [], []] c) v

/-- Each device's arguments are its part of the reference's. -/
structure Shared : Prop where
  queries : ∀ c : Dev Cert.KernelIdeal.nD, m ((c.tc : Thread Cert.KernelIdeal.nD Cert.KernelIdeal.τ).loc Cert.KernelIdeal.main_arg0) = queries m'
  keys : ∀ c : Dev Cert.KernelIdeal.nD, m ((c.tc : Thread Cert.KernelIdeal.nD Cert.KernelIdeal.τ).loc Cert.KernelIdeal.main_arg1) = part c (keys m')
  values : ∀ c : Dev Cert.KernelIdeal.nD, m ((c.tc : Thread Cert.KernelIdeal.nD Cert.KernelIdeal.τ).loc Cert.KernelIdeal.main_arg2) = part c (values m')
  table : ∀ c : Dev Cert.KernelIdeal.nD, m ((c.tc : Thread Cert.KernelIdeal.nD Cert.KernelIdeal.τ).loc Cert.KernelIdeal.main_arg3) = table m'
  lengths : ∀ c : Dev Cert.KernelIdeal.nD, m ((c.tc : Thread Cert.KernelIdeal.nD Cert.KernelIdeal.τ).loc Cert.KernelIdeal.main_arg4) = lengths m'

/-- The first mesh coordinate names the half. -/
theorem half_of : ∀ c : Fin 32, Layout.meshLin [2, 4, 4] c.val [0] = c.val / 16 := by decide

theorem part_apply (c : Dev Cert.KernelIdeal.nD) (v : Cert.ReferenceIdeal.S256x16x16x64.Idx → EReal) (x : Fin 2) (hx : c.val / 16 = x.val)
    (p : Fin 128) (t h : Fin 16) (j : Fin 64) : part c v (ix4 p t h j) = v (ix4 (pageOf x p) t h j) := by
  refine congrArg v (funext fun a => Fin.ext ?_)
  fin_cases a
  · show Layout.meshLin [2, 4, 4] c.val [0] * 128 + p.val = x.val * 128 + p.val
    rw [half_of c, hx]
  · exact (congrArg (· + t.val) (Nat.zero_mul 16)).trans (Nat.zero_add _)
  · exact (congrArg (· + h.val) (Nat.zero_mul 16)).trans (Nat.zero_add _)
  · exact (congrArg (· + j.val) (Nat.zero_mul 64)).trans (Nat.zero_add _)

/-- The call's arguments. -/
def inputs : Inputs where
  q b h j := (queries m' (ix4 b 0 h j)).toReal
  keys P t h j := (keys m' (ix4 P t h j)).toReal
  vals P t h j := values m' (ix4 P t h j)
  table b s := table m' (ix2 b s)
  lens b := lengths m' (ix1 b)

variable {m m'} [Cert.Pre_well_formed_KernelIdeal.Facts]

/-- A slot number below a row's length, as signed words. -/
theorem used_iff (b : Fin 16) (s : Fin 128) :
    (inputs m').used b s ↔ (BitVec.ofNat 32 s.val).toInt < (lengths m' (ix1 b)).toInt := IntOp.cmpi_slt

section
variable (hs : Shared m m') (hp : Cert.Pre_KernelIdeal_well_formed_KernelIdeal m)
include hs hp

theorem device (c : Dev Cert.KernelIdeal.nD) :
    (∀ i, ∃ r : ℝ, queries m' i = (r : EReal)) ∧ (∀ i, ∃ r : ℝ, part c (keys m') i = (r : EReal)) ∧ (∀ b, 1 ≤ (lengths m' (ix1 b)).toInt)
      ∧ ∀ b s, (lengths m' (ix1 b)).toInt ≤ (BitVec.ofNat 32 s.val).toInt ∨ (0 ≤ (table m' (ix2 b s)).toInt ∧ (table m' (ix2 b s)).toInt < 256) := by
  have h := hp c
  rw [hs.queries, hs.keys, hs.table, hs.lengths] at h
  exact Precondition.read _ _ _ _ _ h

theorem fits : (inputs m').Fits where
  some_used b := by
    refine ⟨0, (used_iff b 0).2 ?_⟩
    have h := (device hs hp 0).2.2.1 b
    exact lt_of_lt_of_le (by decide) h
  is_page b s hu := by
    have hu' := (used_iff b s).1 hu
    obtain h | ⟨h0, h1⟩ := (device hs hp 0).2.2.2 b s
    · exact absurd hu' (not_lt.2 h)
    · show (table m' (ix2 b s)).toNat < 256
      rw [BitVec.toInt_eq_toNat_cond] at h0 h1
      split at h0 <;> rename_i hc <;> simp only [hc, if_true, if_false] at h1 <;> omega

theorem real_query (b h : Fin 16) (j : Fin 64) : queries m' (ix4 b 0 h j) = ((inputs m').q b h j : EReal) := by
  obtain ⟨r, hr⟩ := (device hs hp 0).1 (ix4 b 0 h j)
  show _ = ((queries m' (ix4 b 0 h j)).toReal : EReal)
  rw [hr, EReal.toReal_coe]

theorem real_key (P : Fin 256) (t h : Fin 16) (j : Fin 64) : keys m' (ix4 P t h j) = ((inputs m').keys P t h j : EReal) := by
  have hP : P = pageOf ⟨P.val / 128, by omega⟩ ⟨P.val % 128, by omega⟩ := Fin.ext (by simp only [pageOf]; omega)
  let c : Dev Cert.KernelIdeal.nD := ⟨16 * (P.val / 128), by change _ < 32; omega⟩
  obtain ⟨r, hr⟩ := (device hs hp c).2.1 (ix4 ⟨P.val % 128, by omega⟩ t h j)
  rw [part_apply c _ ⟨P.val / 128, by omega⟩ (by show 16 * (P.val / 128) / 16 = P.val / 128; omega), ← hP] at hr
  show _ = ((keys m' (ix4 P t h j)).toReal : EReal)
  rw [hr, EReal.toReal_coe]

theorem given_whole : Cert.ReferenceIdeal.Meaning.Given m' 0 (inputs m') where
  q := real_query hs hp
  keys := real_key hs hp
  vals _ _ _ _ := rfl
  table _ _ := rfl
  lens _ := rfl

theorem given_part (c : Dev Cert.KernelIdeal.nD) : Cert.KernelIdeal.Talk.Given m (inputs m') c where
  q b h j := (congrFun (hs.queries c) _).trans (real_query hs hp b h j)
  keys x p t h j hx := (congrFun (hs.keys c) _).trans ((part_apply c _ x hx p t h j).trans (real_key hs hp _ t h j))
  vals x p t h j hx := (congrFun (hs.values c) _).trans (part_apply c _ x hx p t h j)
  table _ _ := congrFun (hs.table c) _
  lens _ := congrFun (hs.lengths c) _

/-- The array a device writes back is the reference's result. -/
theorem written_eq (c : Dev Cert.KernelIdeal.nD) :
    (Cert.KernelIdeal.Talk.written m c : Cert.KernelIdeal.S16x1x16x64.Idx → EReal) = Cert.ReferenceIdeal.Value.res_main_v32 m' 0 := by
  funext i
  have hi : i = ix4 (i 0 : Fin 16) (0 : Fin 1) (i 2 : Fin 16) (i 3 : Fin 64) := by
    funext a
    fin_cases a
    · rfl
    · exact Subsingleton.elim (α := Fin 1) _ _
    · rfl
    · rfl
  rw [hi]
  obtain ⟨r, hr⟩ := (given_whole hs hp).answer (fits hs hp) (i 0) (i 2)
  exact (Cert.KernelIdeal.Talk.written_answer (fits hs hp) (given_part hs hp) r c (i 0) (i 2) (i 3)).trans (hr (i 3)).symm

end

end Cert.Whole

end
-- ==== Proof.lean ====
/-
  The proof of `Cert.Claim`: the runs of the kernel's program, as compiled and at the extended reals, and of the
  reference's; and that on well-formed arguments the kernel returns what the reference does.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Kernel.Launch
public import proofs.«01_k».proof.Proof.KernelIdeal.Launch
public import proofs.«01_k».proof.Proof.Whole

@[expose] public section

noncomputable section

namespace Cert.Proof

open Idealize.ShloMosaic Idealize.SL.Sem

theorem kernel_runs : Cert.quiescent_Kernel := fun m g _ =>
  (θ_run _ _ _).mono (fun r h => ⟨fun c => Cert.Kernel.Talk.args_kept m c r.2 (h.1 c), h.2⟩) (Cert.Kernel.Talk.run_main m g)

theorem kernel_runs_ideal : Cert.quiescent_KernelIdeal := fun m g _ =>
  (θ_run _ _ _).mono (fun r h => ⟨fun c => Cert.KernelIdeal.Talk.args_kept m c r.2 (h.1 c), h.2⟩) (Cert.KernelIdeal.Talk.run_main m g)

theorem reference_runs : Cert.quiescent_ReferenceIdeal := fun m g _ =>
  (θ_run _ _ _).mono (fun r h => ⟨fun c => (h c).2, Idealize.ShloMosaic.sem_eq_zero_of_no_sems (by decide) r.2⟩)
    (Cert.ReferenceIdeal.Value.run m g)

/-- On well-formed arguments each device's result is the reference's. -/
theorem same_result [Cert.Pre_well_formed_KernelIdeal.Facts] : Cert.algebraic_KernelIdeal_ReferenceIdeal_pre_well_formed_KernelIdeal := by
  intro m g m' g' hp hs
  have hsh : Cert.Whole.Shared m m' := ⟨fun c => (hs c).1, fun c => (hs c).2.1, fun c => (hs c).2.2.1, fun c => (hs c).2.2.2.1,
    fun c => (hs c).2.2.2.2⟩
  refine ⟨Cert.ReferenceIdeal.Value.res_main_v32 m' 0, ?_, ?_⟩
  · refine (θ_run _ _ _).mono (fun r h c => ⟨?_, Cert.KernelIdeal.Talk.args_kept m c r.2 (h.1 c)⟩) (Cert.KernelIdeal.Talk.run_main m g)
    exact ((h.1 c).2.2.2.2.2.trans (Function.update_self _ _ _)).trans (Cert.Whole.written_eq hsh hp c)
  · exact (θ_run _ _ _).mono (fun r h => h 0) (Cert.ReferenceIdeal.Value.run m' g')

theorem claim : Cert.Claim := by
  haveI := Cert.Precondition.kernel_facts
  exact ⟨Cert.Kernel.Gen.facts, Cert.KernelIdeal.Gen.facts, Cert.ReferenceIdeal.Gen.facts, Cert.Precondition.kernel_facts,
    Cert.Precondition.reference_facts, kernel_runs, kernel_runs_ideal, fun m g _ => kernel_runs_ideal m g trivial, reference_runs,
    fun m g _ => reference_runs m g trivial, trivial, same_result⟩

end Cert.Proof

end
